-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv127" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2304x2048 : Shape := ⟨2, ![2304, 2048]⟩
abbrev S2304x128 : Shape := ⟨2, ![2304, 128]⟩
abbrev S2048x30x256 : Shape := ⟨3, ![2048, 30, 256]⟩
abbrev S30x256 : Shape := ⟨2, ![30, 256]⟩
abbrev S256 : Shape := ⟨1, ![256]⟩
abbrev S2304x512 : Shape := ⟨2, ![2304, 512]⟩
abbrev S30x2048x256 : Shape := ⟨3, ![30, 2048, 256]⟩
abbrev S1x256 : Shape := ⟨2, ![1, 256]⟩
abbrev S6x30x384x256 : Shape := ⟨4, ![6, 30, 384, 256]⟩
abbrev S6x30x384 : Shape := ⟨3, ![6, 30, 384]⟩
abbrev S1x2048x256 : Shape := ⟨3, ![1, 2048, 256]⟩
abbrev S6x1x384x256 : Shape := ⟨4, ![6, 1, 384, 256]⟩
abbrev S384x2048 : Shape := ⟨2, ![384, 2048]⟩
abbrev S2048x256 : Shape := ⟨2, ![2048, 256]⟩
abbrev S64x128 : Shape := ⟨2, ![64, 128]⟩
abbrev S384x256 : Shape := ⟨2, ![384, 256]⟩
abbrev S64x256 : Shape := ⟨2, ![64, 256]⟩
abbrev S64x1 : Shape := ⟨2, ![64, 1]⟩
abbrev S1x1x64x256 : Shape := ⟨4, ![1, 1, 64, 256]⟩
abbrev S64 : Shape := ⟨1, ![64]⟩
abbrev S64x128x1 : Shape := ⟨3, ![64, 128, 1]⟩
abbrev S1x128 : Shape := ⟨2, ![1, 128]⟩
abbrev S1x1x64x128 : Shape := ⟨4, ![1, 1, 64, 128]⟩
abbrev S128x128 : Shape := ⟨2, ![128, 128]⟩
abbrev S30x128 : Shape := ⟨2, ![30, 128]⟩
abbrev S1x30x128 : Shape := ⟨3, ![1, 30, 128]⟩

abbrev nBuf : Space → Nat
  | .hbm => 14
  | .vmem => 19
  | .smem => 0
  | _ => 0

abbrev bufTy : (tb : Table) → Fin (tcTables nBuf tb) → BufTy
  | .hbm, ⟨0, _⟩ => ⟨S2304x2048, .i8⟩
  | .hbm, ⟨1, _⟩ => ⟨S2304x128, .f32⟩
  | .hbm, ⟨2, _⟩ => ⟨S2048x30x256, .i8⟩
  | .hbm, ⟨3, _⟩ => ⟨S30x256, .f32⟩
  | .hbm, ⟨4, _⟩ => ⟨S256, .f32⟩
  | .hbm, ⟨5, _⟩ => ⟨S2304x512, .i32⟩
  | .hbm, ⟨6, _⟩ => ⟨S2304x128, .f32⟩
  | .hbm, ⟨7, _⟩ => ⟨S2304x128, .f32⟩
  | .hbm, ⟨8, _⟩ => ⟨S30x2048x256, .i8⟩
  | .hbm, ⟨9, _⟩ => ⟨S1x256, .f32⟩
  | .hbm, ⟨10, _⟩ => ⟨S6x30x384x256, .f32⟩
  | .hbm, ⟨11, _⟩ => ⟨S6x30x384, .f32⟩
  | .hbm, ⟨12, _⟩ => ⟨S6x30x384x256, .i8⟩
  | .hbm, ⟨13, _⟩ => ⟨S6x30x384, .f32⟩
  | .local _ .vmem, ⟨0, _⟩ => ⟨S2304x2048, .i8⟩
  | .local _ .vmem, ⟨1, _⟩ => ⟨S2304x128, .f32⟩
  | .local _ .vmem, ⟨2, _⟩ => ⟨S1x2048x256, .i8⟩
  | .local _ .vmem, ⟨3, _⟩ => ⟨S1x2048x256, .i8⟩
  | .local _ .vmem, ⟨4, _⟩ => ⟨S30x256, .f32⟩
  | .local _ .vmem, ⟨5, _⟩ => ⟨S1x256, .f32⟩
  | .local _ .vmem, ⟨6, _⟩ => ⟨S2304x128, .i32⟩
  | .local _ .vmem, ⟨7, _⟩ => ⟨S2304x128, .i32⟩
  | .local _ .vmem, ⟨8, _⟩ => ⟨S2304x128, .f32⟩
  | .local _ .vmem, ⟨9, _⟩ => ⟨S2304x128, .f32⟩
  | .local _ .vmem, ⟨10, _⟩ => ⟨S6x1x384x256, .f32⟩
  | .local _ .vmem, ⟨11, _⟩ => ⟨S6x1x384x256, .f32⟩
  | .local _ .vmem, ⟨12, _⟩ => ⟨S6x30x384, .f32⟩
  | .local _ .vmem, ⟨13, _⟩ => ⟨S6x1x384x256, .i8⟩
  | .local _ .vmem, ⟨14, _⟩ => ⟨S6x1x384x256, .i8⟩
  | .local _ .vmem, ⟨15, _⟩ => ⟨S6x30x384, .f32⟩
  | .local _ .vmem, ⟨16, _⟩ => ⟨S2304x2048, .bf16⟩
  | .local _ .vmem, ⟨17, _⟩ => ⟨S2304x128, .f32⟩
  | .local _ .vmem, ⟨18, _⟩ => ⟨S2304x128, .f32⟩
  | _, _ => ⟨S2304x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![30], ![false]⟩

def k0_off1 (i : grid0.Coords) : Fin 2 → Nat :=
  let arg0 : BitVec 32 := BitVec.ofNat 32 (i 0).val
  let v6 : Index := Scalar.indexCast arg0
  let c0_3 : Index := 0#32
  ![v6.toNat, 0]
def k0_cond2 (i : grid0.Coords) : BitVec 1 :=
  let arg0 : BitVec 32 := BitVec.ofNat 32 (i 0).val
  let c29_i32 : BitVec 32 := 29#32
  let v5494 : BitVec 1 := Scalar.cmpi .eq arg0 c29_i32
  let v5495 : BitVec 32 := Scalar.extui v5494
  let c0_i32_2076 : BitVec 32 := 0#32
  let v5496 : BitVec 1 := Scalar.cmpi .ne v5495 c0_i32_2076
  v5496

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2304x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S30x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2304x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6x1x384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S6x30x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S6x1x384x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S6x30x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv127" => some ((1 / 127 : ℝ) : EReal)
  | _ => none
-- ==== ReferenceIdeal.lean ====
abbrev S2304x2048 : Shape := ⟨2, ![2304, 2048]⟩
abbrev S2304x128 : Shape := ⟨2, ![2304, 128]⟩
abbrev S2048x30x256 : Shape := ⟨3, ![2048, 30, 256]⟩
abbrev S30x256 : Shape := ⟨2, ![30, 256]⟩
abbrev S256 : Shape := ⟨1, ![256]⟩
abbrev S2304x512 : Shape := ⟨2, ![2304, 512]⟩
abbrev S6x30x384x256 : Shape := ⟨4, ![6, 30, 384, 256]⟩
abbrev S6x30x384 : Shape := ⟨3, ![6, 30, 384]⟩
abbrev S2048x7680 : Shape := ⟨2, ![2048, 7680]⟩
abbrev S2304x7680 : Shape := ⟨2, ![2304, 7680]⟩
abbrev S6x384x30x256 : Shape := ⟨4, ![6, 384, 30, 256]⟩
abbrev S2304x1 : Shape := ⟨2, ![2304, 1]⟩
abbrev S6x384 : Shape := ⟨2, ![6, 384]⟩
abbrev S6x384x1x1 : Shape := ⟨4, ![6, 384, 1, 1]⟩
abbrev S1x1x30x256 : Shape := ⟨4, ![1, 1, 30, 256]⟩
abbrev S6x384x30 : Shape := ⟨3, ![6, 384, 30]⟩
abbrev S6x384x30x1 : Shape := ⟨4, ![6, 384, 30, 1]⟩
abbrev S1x1x1x256 : Shape := ⟨4, ![1, 1, 1, 256]⟩
abbrev S6x384x30x16x4 : Shape := ⟨5, ![6, 384, 30, 16, 4]⟩
abbrev S2304x480 : Shape := ⟨2, ![2304, 480]⟩
abbrev S6x384x30x16 : Shape := ⟨4, ![6, 384, 30, 16]⟩
abbrev S6x384x30x16x1 : Shape := ⟨5, ![6, 384, 30, 16, 1]⟩
abbrev S6x384x30x64 : Shape := ⟨4, ![6, 384, 30, 64]⟩
abbrev S2304x120 : Shape := ⟨2, ![2304, 120]⟩
abbrev S6x384x30x4 : Shape := ⟨4, ![6, 384, 30, 4]⟩

abbrev nBuf : Space → Nat
  | .hbm => 12
  | .vmem => 12
  | .smem => 0
  | _ => 0

abbrev bufTy : (tb : Table) → Fin (tcTables nBuf tb) → BufTy
  | .hbm, ⟨0, _⟩ => ⟨S2304x2048, .i8⟩
  | .hbm, ⟨1, _⟩ => ⟨S2304x128, .f32⟩
  | .hbm, ⟨2, _⟩ => ⟨S2048x30x256, .i8⟩
  | .hbm, ⟨3, _⟩ => ⟨S30x256, .f32⟩
  | .hbm, ⟨4, _⟩ => ⟨S256, .f32⟩
  | .hbm, ⟨5, _⟩ => ⟨S2304x512, .i32⟩
  | .hbm, ⟨6, _⟩ => ⟨S2304x128, .f32⟩
  | .hbm, ⟨7, _⟩ => ⟨S2304x128, .f32⟩
  | .hbm, ⟨8, _⟩ => ⟨S6x30x384x256, .f32⟩
  | .hbm, ⟨9, _⟩ => ⟨S6x30x384, .f32⟩
  | .hbm, ⟨10, _⟩ => ⟨S6x30x384x256, .i8⟩
  | .hbm, ⟨11, _⟩ => ⟨S6x30x384, .f32⟩
  | .local _ .vmem, ⟨0, _⟩ => ⟨S2304x2048, .i8⟩
  | .local _ .vmem, ⟨1, _⟩ => ⟨S2304x128, .f32⟩
  | .local _ .vmem, ⟨2, _⟩ => ⟨S2048x30x256, .i8⟩
  | .local _ .vmem, ⟨3, _⟩ => ⟨S30x256, .f32⟩
  | .local _ .vmem, ⟨4, _⟩ => ⟨S256, .f32⟩
  | .local _ .vmem, ⟨5, _⟩ => ⟨S2304x512, .i32⟩
  | .local _ .vmem, ⟨6, _⟩ => ⟨S2304x128, .f32⟩
  | .local _ .vmem, ⟨7, _⟩ => ⟨S2304x128, .f32⟩
  | .local _ .vmem, ⟨8, _⟩ => ⟨S6x30x384x256, .f32⟩
  | .local _ .vmem, ⟨9, _⟩ => ⟨S6x30x384, .f32⟩
  | .local _ .vmem, ⟨10, _⟩ => ⟨S6x30x384x256, .i8⟩
  | .local _ .vmem, ⟨11, _⟩ => ⟨S6x30x384, .f32⟩
  | _, _ => ⟨S2304x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2304x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x30x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x30x384x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x30x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x30x384x256 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x30x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.BitsOps.lean ====
/- The kernel's body written tile by tile. The printed body unrolls 6 batch rows of 6 tiles of 64 tokens each and 18 final
   transpositions; here one tile is one program, stated for a row `b` and a tile number `k`, and the body is the sequence of them.
   The functions on values that a tile applies are named first. `body_eq` says that the printed body is this one. -/
module

public import proofs.«01_k».proof.Proof.Gen.Kernel
public import Idealize.ShloMosaic.PureOps.Ideal

@[expose] public section

set_option maxRecDepth 65536
set_option synthInstance.maxSize 4096

noncomputable section

namespace Cert.Kernel.Hand

open Idealize.ShloMosaic Idealize.SL.Sem
open Cert.Kernel Cert.Kernel.Gen

variable {F : FTy → Type} [FloatOps F]

/-! ## The values of one grid point -/

/-- The layer's weights as bf16. -/
def wB (v3 : Vec F S1x2048x256 .i8) : FVec F S2048x256 .bf16 :=
  sitofp .bf16 (shapeCast (α := BitVec 8) S2048x256 v3 shapeCasts_S1x2048x256_S2048x256 : IVec S2048x256 8)

/-- The layer's weight scales times `2048 ^ (-1/2)`. -/
def wsP (v7 : Vec F S1x256 .f32) : FVec F S1x256 .f32 := mulf v7 (broadcast S1x256 (Scalar.ofBits .f32 0x3CB504F3#32))

/-- The gain row. -/
def gP (v10 : Vec F S1x256 .f32) : FVec F S1x256 .f32 := shapeCast S1x256 v10 shapeCasts_S1x256_S1x256

/-- The lane number at every position of a tile. -/
def lane : IVec S64x128 32 := iota .tc S64x128 32 [1] iota_S64x128_d1_w32

/-- The layer modulo 8, as the body computes it with the sign corrected. -/
def mod8 (a : BitVec 32) : BitVec 32 :=
  Scalar.select
    (Scalar.andi
      (Scalar.xori (Scalar.cmpi .slt (Scalar.remsi a (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi a (Scalar.select (Scalar.cmpi .eq 8#32 0#32) 1#32 8#32)) 0#32))
    (Scalar.addi (Scalar.remsi a (Scalar.select (Scalar.cmpi .eq 8#32 0#32) 1#32 8#32)) (Scalar.select (Scalar.cmpi .eq 8#32 0#32) 1#32 8#32))
    (Scalar.remsi a (Scalar.select (Scalar.cmpi .eq 8#32 0#32) 1#32 8#32))

/-- The word that holds a lane's byte. -/
def wordIdx (a : BitVec 32) : IVec S64x128 32 :=
  addi (broadcast S64x128 (Scalar.muli 16#32 (mod8 a))) (shrsi (andi lane (broadcast S64x128 63#32)) (broadcast S64x128 2#32))

/-- The bit of that word at which a lane's first field starts. -/
def shift0 : IVec S64x128 32 :=
  addi (muli (broadcast S64x128 8#32) (andi lane (broadcast S64x128 3#32)))
    (muli (broadcast S64x128 2#32) (shrsi lane (broadcast S64x128 6#32)))

/-- The lane of the scale tables that holds a lane's first quarter. -/
def qIdx (a : BitVec 32) : IVec S64x128 32 :=
  addi (broadcast S64x128 (Scalar.muli 4#32 a)) (shrsi lane (broadcast S64x128 6#32))

/-- The lanes that are the layer's own. -/
def onL (a : BitVec 32) : IVec S64x128 1 := cmpi .eq lane (broadcast S64x128 a)

/-- One row's product with the layer's weights. -/
def accP (v46 : Vec F S384x2048 .bf16) (w : FVec F S2048x256 .bf16) : FVec F S384x256 .f32 :=
  matmul dot_S384x2048_S2048x256_S384x256_1_0_0_1_n_n none v46 w (constant S384x256 .f32 0x00000000#32)

/-! ## The values of one tile -/

theorem slicesAcc (k : ℕ) (hk : k < 6) : S384x256.Slices ![64 * k, 0] S64x256 := by
  interval_cases k <;> decide
theorem inbRow (b k : ℕ) (hb : b < 6) (hk : k < 6) : ∀ a, (![384 * b + 64 * k, 0] : Fin 2 → Nat) a + S64x128.size a ≤ S2304x128.size a := by
  intro a; fin_cases a
  · show 384 * b + 64 * k + 64 ≤ 2304; omega
  · show 0 + 128 ≤ 128; omega
theorem inbCol (b k : ℕ) (hb : b < 6) (hk : k < 6) : ∀ a, (![384 * b + 64 * k, 0] : Fin 2 → Nat) a + S64x1.size a ≤ S2304x128.size a := by
  intro a; fin_cases a
  · show 384 * b + 64 * k + 64 ≤ 2304; omega
  · show 0 + 1 ≤ 128; omega
theorem inbE (b : ℕ) (hb : b < 6) : ∀ a, (![384 * b, 0] : Fin 2 → Nat) a + S384x2048.size a ≤ S2304x2048.size a := by
  intro a; fin_cases a
  · show 384 * b + 384 ≤ 2304; omega
  · show 0 + 2048 ≤ 2048; omega
theorem inbP (b k : ℕ) (hb : b < 6) (hk : k < 6) : ∀ a, (![b, 0, 64 * k, 0] : Fin 4 → Nat) a + S1x1x64x256.size a ≤ S6x1x384x256.size a := by
  intro a; fin_cases a
  · show b + 1 ≤ 6; omega
  · show 0 + 1 ≤ 1; omega
  · show 64 * k + 64 ≤ 384; omega
  · show 0 + 256 ≤ 256; omega
theorem inbC (b k h : ℕ) (hb : b < 6) (hk : k < 6) (hh : h < 2) : ∀ a, (![b, 0, 64 * k, 128 * h] : Fin 4 → Nat) a + S1x1x64x128.size a ≤ S6x1x384x256.size a := by
  intro a; fin_cases a
  · show b + 1 ≤ 6; omega
  · show 0 + 1 ≤ 1; omega
  · show 64 * k + 64 ≤ 384; omega
  · show 128 * h + 128 ≤ 256; omega
theorem packedC (b k h : ℕ) (hb : b < 6) (hk : k < 6) (hh : h < 2) :
    (Rect.unit (s := S6x1x384x256) ![b, 0, 64 * k, 128 * h] S1x1x64x128.size (inbC b k h hb hk hh)).PackedRows (EltTy.packing .i8) := by
  refine Or.inr ⟨by decide, rfl, Or.inl ⟨?_, ?_⟩⟩
  · show 4 ∣ 64 * k; omega
  · show 4 ∣ 64; decide

/-- A tile of the projection: the product, scaled by the token's scale and the channel's. -/
def pT (k : ℕ) (hk : k < 6) (acc : FVec F S384x256 .f32) (v49 : Vec F S64x1 .f32) (ws : FVec F S1x256 .f32) : FVec F S64x256 .f32 :=
  mulf (mulf (extractStridedSlice S64x256 ![64 * k, 0] acc (slicesAcc k hk)) (broadcastTo S64x256 v49 broadcasts_S64x1_S64x256))
    (broadcastTo S64x256 ws broadcasts_S1x256_S64x256)

/-- The root mean square of each token of a tile. -/
def rmsT (p : FVec F S64x256 .f32) : FVec F S64x1 .f32 :=
  sqrt (addf (mulf (shapeCast S64x1 (multiReduction .add [1] S64 (mulf p p) 0x00000000#32 reduces_S64x256_S64 (.inl rfl) rfl) shapeCasts_S64_S64x1)
    (broadcast S64x1 (Scalar.ofBits .f32 0x3B800000#32))) (broadcast S64x1 (Scalar.ofBits .f32 0x358637BD#32)))

/-- A column as it is stored into an accumulator: the same on every lane. -/
def wide (x : FVec F S64x1 .f32) : FVec F S64x128 .f32 :=
  shapeCast S64x128 (broadcastTo S64x128 (shapeCast S64x1 x shapeCasts_S64x1_S64x1) broadcasts_S64x1_S64x128) shapeCasts_S64x128_S64x128

/-- The accumulators' mask. -/
def maskT (a : BitVec 32) : IVec S64x128 1 := shapeCast S64x128 (onL a) shapeCasts_S64x128_S64x128

/-- `2 ^ (-1/2)` over the root mean square. -/
def invT (rms : FVec F S64x1 .f32) : FVec F S64x1 .f32 := divf (broadcast S64x1 (Scalar.ofBits .f32 0x3F3504F3#32)) rms

/-- A lane index, counted from the end where negative. -/
def fixIdx (idx : IVec S64x128 32) : IVec S64x128 32 :=
  shapeCast S64x128 (shapeCast S64x128x1
    (select (cmpi .slt idx (broadcast S64x128 0#32)) (addi idx (broadcast S64x128 128#32)) idx) shapeCasts_S64x128_S64x128x1)
    shapeCasts_S64x128x1_S64x128

/-- A lane's word. -/
def wvT (a : BitVec 32) (v73 : Vec F S64x128 .i32) : IVec S64x128 32 := dynamicGather 1 v73 (fixIdx (wordIdx a))

/-- A lane's two-bit field, `n` bits after its first. -/
def fieldT (n : BitVec 32) (wv : IVec S64x128 32) : FVec F S64x128 .f32 :=
  sitofp .f32 (andi (shrsi wv (addi shift0 (broadcast S64x128 n))) (broadcast S64x128 3#32))

/-- A lane's entry of a scale table, `n` quarters after its first. -/
def quarterT (a n : BitVec 32) (v88 : Vec F S64x128 .f32) : FVec F S64x128 .f32 :=
  dynamicGather 1 v88 (fixIdx (addi (qIdx a) (broadcast S64x128 n)))

theorem slicesP (h : ℕ) (hh : h < 2) : S64x256.Slices ![0, 128 * h] S64x128 := by
  interval_cases h <;> decide
theorem slicesG (h : ℕ) (hh : h < 2) : S1x256.Slices ![0, 128 * h] S1x128 := by
  interval_cases h <;> decide

/-- One half of a tile's combination of the normalised projection with the dequantised table row. -/
def combT (h : ℕ) (hh : h < 2) (p : FVec F S64x256 .f32) (inv : FVec F S64x1 .f32) (g : FVec F S1x256 .f32) (f s m : FVec F S64x128 .f32) : FVec F S64x128 .f32 :=
  addf (mulf (mulf (extractStridedSlice S64x128 ![0, 128 * h] p (slicesP h hh)) (broadcastTo S64x128 inv broadcasts_S64x1_S64x128))
      (broadcastTo S64x128 (extractStridedSlice S1x128 ![0, 128 * h] g (slicesG h hh)) broadcasts_S1x128_S64x128))
    (addf (mulf f s) m)

/-- The quantiser's scale of each token of a tile, from the two halves. -/
def scaleT (c0 c1 : FVec F S64x128 .f32) : FVec F S64x1 .f32 :=
  select (cmpf .oeq (shapeCast S64x1 (multiReduction .maximumf [1] S64 (maximumf (absf c0) (absf c1)) 0xFF800000#32 reduces_S64x128_S64 (.inl rfl) rfl) shapeCasts_S64_S64x1)
      (broadcast S64x1 (Scalar.ofBits .f32 0x00000000#32)))
    (broadcast S64x1 (Scalar.ofBits .f32 0x3F800000#32))
    (mulf (shapeCast S64x1 (multiReduction .maximumf [1] S64 (maximumf (absf c0) (absf c1)) 0xFF800000#32 reduces_S64x128_S64 (.inl rfl) rfl) shapeCasts_S64_S64x1)
      (broadcast S64x1 (Scalar.ofBits .f32 0x3C010204#32)))

/-- The codes of one half of a tile. -/
def codesT (c : FVec F S64x128 .f32) (sc : FVec F S64x1 .f32) : IVec S64x128 8 :=
  fptosi 8 (minimumf (broadcast S64x128 (Scalar.sitofp .f32 127#32))
    (maximumf (broadcast S64x128 (Scalar.sitofp .f32 4294967169#32)) (roundeven (divf c (broadcastTo S64x128 sc broadcasts_S64x1_S64x128)))))

/-! ## The programs -/

/-- One tile of 64 tokens. -/
def tile (b k : ℕ) (hb : b < 6) (hk : k < 6) (a : BitVec 32) (ws g : FVec F S1x256 .f32) (acc : FVec F S384x256 .f32)
    (arg2 : Memref sig .tc .vmem S2304x128 .f32) (arg6 : Memref sig .tc .vmem S2304x128 .i32) (arg7 arg8 : Memref sig .tc .vmem S2304x128 .f32)
    (arg9 : Memref sig .tc .vmem S6x1x384x256 .f32) (arg11 : Memref sig .tc .vmem S6x1x384x256 .i8) (harg11 : arg11.IsWhole)
    (arg14 arg15 : Memref sig .tc .vmem S2304x128 .f32) : Prog (TpuEff nD τ sig (Elt F) Λ₀ .tc) PUnit := do
  let v49 : Vec F S64x1 .f32 ← Prog.lift (.load arg2 (Rect.unit (s := S2304x128) ![384 * b + 64 * k, 0] S64x1.size (inbCol b k hb hk)).toLoadRect (View.loadsAt_vmem h_S64x1))
  let _x : Vec F S1x1x64x256 .f32 ← Prog.lift (.load arg9 (Rect.unit (s := S6x1x384x256) ![b, 0, 64 * k, 0] S1x1x64x256.size (inbP b k hb hk)).toLoadRect (View.loadsAt_vmem h_S1x1x64x256))
  Prog.lift (.store arg9 (Rect.unit (s := S6x1x384x256) ![b, 0, 64 * k, 0] S1x1x64x256.size (inbP b k hb hk))
    (shapeCast S1x1x64x256 (pT k hk acc v49 ws) shapeCasts_S64x256_S1x1x64x256) Finset.univ (View.stores_vmem_bits_univ h_S1x1x64x256 rfl) (.inl rfl))
  let _x : Vec F S64x128 .f32 ← Prog.lift (.load arg14 (Rect.unit (s := S2304x128) ![384 * b + 64 * k, 0] S64x128.size (inbRow b k hb hk)).toLoadRect (View.loadsAt_vmem h_S64x128))
  Prog.lift (.store arg14 (Rect.unit (s := S2304x128) ![384 * b + 64 * k, 0] S64x128.size (inbRow b k hb hk))
    (wide (rmsT (pT k hk acc v49 ws))) (IVec.on (maskT a)) (View.stores_vmem_bits h_S64x128 rfl (fun h => nomatch h)) (.inr (fun _ => rfl)))
  let v73 : Vec F S64x128 .i32 ← Prog.lift (.load arg6 (Rect.unit (s := S2304x128) ![384 * b + 64 * k, 0] S64x128.size (inbRow b k hb hk)).toLoadRect (View.loadsAt_vmem h_S64x128))
  let v88 : Vec F S64x128 .f32 ← Prog.lift (.load arg7 (Rect.unit (s := S2304x128) ![384 * b + 64 * k, 0] S64x128.size (inbRow b k hb hk)).toLoadRect (View.loadsAt_vmem h_S64x128))
  let v99 : Vec F S64x128 .f32 ← Prog.lift (.load arg8 (Rect.unit (s := S2304x128) ![384 * b + 64 * k, 0] S64x128.size (inbRow b k hb hk)).toLoadRect (View.loadsAt_vmem h_S64x128))
  let v125 : Vec F S64x128 .f32 ← Prog.lift (.load arg7 (Rect.unit (s := S2304x128) ![384 * b + 64 * k, 0] S64x128.size (inbRow b k hb hk)).toLoadRect (View.loadsAt_vmem h_S64x128))
  let v136 : Vec F S64x128 .f32 ← Prog.lift (.load arg8 (Rect.unit (s := S2304x128) ![384 * b + 64 * k, 0] S64x128.size (inbRow b k hb hk)).toLoadRect (View.loadsAt_vmem h_S64x128))
  let _x : Vec F S64x128 .f32 ← Prog.lift (.load arg15 (Rect.unit (s := S2304x128) ![384 * b + 64 * k, 0] S64x128.size (inbRow b k hb hk)).toLoadRect (View.loadsAt_vmem h_S64x128))
  Prog.lift (.store arg15 (Rect.unit (s := S2304x128) ![384 * b + 64 * k, 0] S64x128.size (inbRow b k hb hk))
    (wide (scaleT (combT 0 (by decide) (pT k hk acc v49 ws) (invT (rmsT (pT k hk acc v49 ws))) g (fieldT 0#32 (wvT a v73)) (quarterT a 0#32 v88) (quarterT a 0#32 v99))
      (combT 1 (by decide) (pT k hk acc v49 ws) (invT (rmsT (pT k hk acc v49 ws))) g (fieldT 4#32 (wvT a v73)) (quarterT a 2#32 v125) (quarterT a 2#32 v136))))
    (IVec.on (maskT a)) (View.stores_vmem_bits h_S64x128 rfl (fun h => nomatch h)) (.inr (fun _ => rfl)))
  let _x : Vec F S1x1x64x128 .i8 ← Prog.lift (.load arg11 (Rect.unit (s := S6x1x384x256) ![b, 0, 64 * k, 128 * 0] S1x1x64x128.size (inbC b k 0 hb hk (by decide))).toLoadRect (View.loadsAt_vmem h_S1x1x64x128))
  Prog.lift (.store arg11 (Rect.unit (s := S6x1x384x256) ![b, 0, 64 * k, 128 * 0] S1x1x64x128.size (inbC b k 0 hb hk (by decide)))
    (shapeCast S1x1x64x128 (codesT (combT 0 (by decide) (pT k hk acc v49 ws) (invT (rmsT (pT k hk acc v49 ws))) g (fieldT 0#32 (wvT a v73)) (quarterT a 0#32 v88) (quarterT a 0#32 v99))
      (scaleT (combT 0 (by decide) (pT k hk acc v49 ws) (invT (rmsT (pT k hk acc v49 ws))) g (fieldT 0#32 (wvT a v73)) (quarterT a 0#32 v88) (quarterT a 0#32 v99))
        (combT 1 (by decide) (pT k hk acc v49 ws) (invT (rmsT (pT k hk acc v49 ws))) g (fieldT 4#32 (wvT a v73)) (quarterT a 2#32 v125) (quarterT a 2#32 v136)))) shapeCasts_S64x128_S1x1x64x128)
    Finset.univ (View.stores_vmem h_S1x1x64x128 (harg11.storeExact_slice rfl _ (packedC b k 0 hb hk (by decide))) (fun _ => rfl)) (.inl rfl))
  let _x : Vec F S1x1x64x128 .i8 ← Prog.lift (.load arg11 (Rect.unit (s := S6x1x384x256) ![b, 0, 64 * k, 128 * 1] S1x1x64x128.size (inbC b k 1 hb hk (by decide))).toLoadRect (View.loadsAt_vmem h_S1x1x64x128))
  Prog.lift (.store arg11 (Rect.unit (s := S6x1x384x256) ![b, 0, 64 * k, 128 * 1] S1x1x64x128.size (inbC b k 1 hb hk (by decide)))
    (shapeCast S1x1x64x128 (codesT (combT 1 (by decide) (pT k hk acc v49 ws) (invT (rmsT (pT k hk acc v49 ws))) g (fieldT 4#32 (wvT a v73)) (quarterT a 2#32 v125) (quarterT a 2#32 v136))
      (scaleT (combT 0 (by decide) (pT k hk acc v49 ws) (invT (rmsT (pT k hk acc v49 ws))) g (fieldT 0#32 (wvT a v73)) (quarterT a 0#32 v88) (quarterT a 0#32 v99))
        (combT 1 (by decide) (pT k hk acc v49 ws) (invT (rmsT (pT k hk acc v49 ws))) g (fieldT 4#32 (wvT a v73)) (quarterT a 2#32 v125) (quarterT a 2#32 v136)))) shapeCasts_S64x128_S1x1x64x128)
    Finset.univ (View.stores_vmem h_S1x1x64x128 (harg11.storeExact_slice rfl _ (packedC b k 1 hb hk (by decide))) (fun _ => rfl)) (.inl rfl))

/-- One batch row: the product, then its six tiles. -/
def row (b : ℕ) (hb : b < 6) (a : BitVec 32) (w : FVec F S2048x256 .bf16) (ws g : FVec F S1x256 .f32)
    (arg2 : Memref sig .tc .vmem S2304x128 .f32) (arg6 : Memref sig .tc .vmem S2304x128 .i32) (arg7 arg8 : Memref sig .tc .vmem S2304x128 .f32)
    (arg9 : Memref sig .tc .vmem S6x1x384x256 .f32) (arg11 : Memref sig .tc .vmem S6x1x384x256 .i8) (harg11 : arg11.IsWhole)
    (arg13 : Memref sig .tc .vmem S2304x2048 .bf16) (arg14 arg15 : Memref sig .tc .vmem S2304x128 .f32) : Prog (TpuEff nD τ sig (Elt F) Λ₀ .tc) PUnit := do
  let v46 : Vec F S384x2048 .bf16 ← Prog.lift (.load arg13 (Rect.unit (s := S2304x2048) ![384 * b, 0] S384x2048.size (inbE b hb)).toLoadRect (View.loadsAt_vmem h_S384x2048))
  tile b 0 hb (by decide) a ws g (accP v46 w) arg2 arg6 arg7 arg8 arg9 arg11 harg11 arg14 arg15
  tile b 1 hb (by decide) a ws g (accP v46 w) arg2 arg6 arg7 arg8 arg9 arg11 harg11 arg14 arg15
  tile b 2 hb (by decide) a ws g (accP v46 w) arg2 arg6 arg7 arg8 arg9 arg11 harg11 arg14 arg15
  tile b 3 hb (by decide) a ws g (accP v46 w) arg2 arg6 arg7 arg8 arg9 arg11 harg11 arg14 arg15
  tile b 4 hb (by decide) a ws g (accP v46 w) arg2 arg6 arg7 arg8 arg9 arg11 harg11 arg14 arg15
  tile b 5 hb (by decide) a ws g (accP v46 w) arg2 arg6 arg7 arg8 arg9 arg11 harg11 arg14 arg15

theorem inbAcc (b k : ℕ) (hb : b < 6) (hk : k < 3) : ∀ a, (![384 * b + 128 * k, 0] : Fin 2 → Nat) a + S128x128.size a ≤ S2304x128.size a := by
  intro a; fin_cases a
  · show 384 * b + 128 * k + 128 ≤ 2304; omega
  · show 0 + 128 ≤ 128; omega
theorem inbOut (b k : ℕ) (hb : b < 6) (hk : k < 3) : ∀ a, (![b, 0, 128 * k] : Fin 3 → Nat) a + S1x30x128.size a ≤ S6x30x384.size a := by
  intro a; fin_cases a
  · show b + 1 ≤ 6; omega
  · show 0 + 30 ≤ 30; omega
  · show 128 * k + 128 ≤ 384; omega

/-- A block of an accumulator as it is stored into a result: transposed, the layers' lanes kept. -/
def outT (x : Vec F S128x128 .f32) : FVec F S1x30x128 .f32 :=
  shapeCast S1x30x128 (extractStridedSlice S30x128 ![0, 0] (transpose S128x128 [1, 0] x transposes_S128x128_p1_0_S128x128) slices_S128x128_o0_0_S30x128) shapeCasts_S30x128_S1x30x128

/-- One block of an accumulator moved to a result. -/
def outOne (b k : ℕ) (hb : b < 6) (hk : k < 3) (src : Memref sig .tc .vmem S2304x128 .f32) (dst : Memref sig .tc .vmem S6x30x384 .f32) :
    Prog (TpuEff nD τ sig (Elt F) Λ₀ .tc) PUnit := do
  let v : Vec F S128x128 .f32 ← Prog.lift (.load src (Rect.unit (s := S2304x128) ![384 * b + 128 * k, 0] S128x128.size (inbAcc b k hb hk)).toLoadRect (View.loadsAt_vmem h_S128x128))
  let _x : Vec F S1x30x128 .f32 ← Prog.lift (.load dst (Rect.unit (s := S6x30x384) ![b, 0, 128 * k] S1x30x128.size (inbOut b k hb hk)).toLoadRect (View.loadsAt_vmem h_S1x30x128))
  Prog.lift (.store dst (Rect.unit (s := S6x30x384) ![b, 0, 128 * k] S1x30x128.size (inbOut b k hb hk)) (outT v) Finset.univ (View.stores_vmem_bits_univ h_S1x30x128 rfl) (.inl rfl))

/-- One row of both results. -/
def outRow (b : ℕ) (hb : b < 6) (arg10 arg12 : Memref sig .tc .vmem S6x30x384 .f32) (arg14 arg15 : Memref sig .tc .vmem S2304x128 .f32) :
    Prog (TpuEff nD τ sig (Elt F) Λ₀ .tc) PUnit := do
  outOne b 0 hb (by decide) arg14 arg10
  outOne b 0 hb (by decide) arg15 arg12
  outOne b 1 hb (by decide) arg14 arg10
  outOne b 1 hb (by decide) arg15 arg12
  outOne b 2 hb (by decide) arg14 arg10
  outOne b 2 hb (by decide) arg15 arg12

/-- Both results whole. -/
def outAll (arg10 arg12 : Memref sig .tc .vmem S6x30x384 .f32) (arg14 arg15 : Memref sig .tc .vmem S2304x128 .f32) :
    Prog (TpuEff nD τ sig (Elt F) Λ₀ .tc) PUnit := do
  outRow 0 (by decide) arg10 arg12 arg14 arg15
  outRow 1 (by decide) arg10 arg12 arg14 arg15
  outRow 2 (by decide) arg10 arg12 arg14 arg15
  outRow 3 (by decide) arg10 arg12 arg14 arg15
  outRow 4 (by decide) arg10 arg12 arg14 arg15
  outRow 5 (by decide) arg10 arg12 arg14 arg15

theorem packedE (b : ℕ) (hb : b < 6) :
    (Rect.unit (s := S2304x2048) ![384 * b, 0] S384x2048.size (inbE b hb)).PackedRows (EltTy.packing .bf16) := by
  refine Or.inr ⟨by decide, rfl, Or.inl ⟨?_, ?_⟩⟩
  · show 2 ∣ 384 * b; omega
  · show 2 ∣ 384; decide

/-- A block of the codes as it is stored for the products. -/
def eT (x : Vec F S384x2048 .i8) : FVec F S384x2048 .bf16 :=
  shapeCast S384x2048 (sitofp .bf16 (x : IVec S384x2048 8)) shapeCasts_S384x2048_S384x2048

/-- One batch row of the codes stored as bf16. -/
def inOne (b : ℕ) (hb : b < 6) (arg1 : Memref sig .tc .vmem S2304x2048 .i8) (arg13 : Memref sig .tc .vmem S2304x2048 .bf16) (harg13 : arg13.IsWhole) :
    Prog (TpuEff nD τ sig (Elt F) Λ₀ .tc) PUnit := do
  let v : Vec F S384x2048 .i8 ← Prog.lift (.load arg1 (Rect.unit (s := S2304x2048) ![384 * b, 0] S384x2048.size (inbE b hb)).toLoadRect (View.loadsAt_vmem h_S384x2048))
  let _x : Vec F S384x2048 .bf16 ← Prog.lift (.load arg13 (Rect.unit (s := S2304x2048) ![384 * b, 0] S384x2048.size (inbE b hb)).toLoadRect (View.loadsAt_vmem h_S384x2048))
  Prog.lift (.store arg13 (Rect.unit (s := S2304x2048) ![384 * b, 0] S384x2048.size (inbE b hb)) (eT v) Finset.univ
    (View.stores_vmem h_S384x2048 (harg13.storeExact_slice rfl _ (packedE b hb)) (fun _ => rfl)) (.inl rfl))

/-- All codes stored as bf16. -/
def inAll (arg1 : Memref sig .tc .vmem S2304x2048 .i8) (arg13 : Memref sig .tc .vmem S2304x2048 .bf16) (harg13 : arg13.IsWhole) :
    Prog (TpuEff nD τ sig (Elt F) Λ₀ .tc) PUnit := do
  inOne 0 (by decide) arg1 arg13 harg13
  inOne 1 (by decide) arg1 arg13 harg13
  inOne 2 (by decide) arg1 arg13 harg13
  inOne 3 (by decide) arg1 arg13 harg13
  inOne 4 (by decide) arg1 arg13 harg13
  inOne 5 (by decide) arg1 arg13 harg13

/-- The layer as a word. -/
def lay (i : grid0.Coords) : BitVec 32 := BitVec.ofNat 32 (i 0).val

/-- The first layer's test. -/
def isFirst (i : grid0.Coords) : BitVec 1 := Scalar.cmpi .ne ((Scalar.extui (Scalar.cmpi .eq (lay i) 0#32) : BitVec 32)) 0#32

/-- The body of one grid point. -/
def body (i : grid0.Coords) (arg1 : Memref sig .tc .vmem S2304x2048 .i8) (arg2 : Memref sig .tc .vmem S2304x128 .f32)
    (arg3 : Memref sig .tc .vmem S1x2048x256 .i8) (arg4 : Memref sig .tc .vmem S30x256 .f32) (arg5 : Memref sig .tc .vmem S1x256 .f32)
    (arg6 : Memref sig .tc .vmem S2304x128 .i32) (arg7 arg8 : Memref sig .tc .vmem S2304x128 .f32)
    (arg9 : Memref sig .tc .vmem S6x1x384x256 .f32) (arg10 : Memref sig .tc .vmem S6x30x384 .f32)
    (arg11 : Memref sig .tc .vmem S6x1x384x256 .i8) (harg11 : arg11.IsWhole) (arg12 : Memref sig .tc .vmem S6x30x384 .f32)
    (arg13 : Memref sig .tc .vmem S2304x2048 .bf16) (harg13 : arg13.IsWhole) (arg14 arg15 : Memref sig .tc .vmem S2304x128 .f32) :
    Prog (TpuEff nD τ sig (Elt F) Λ₀ .tc) PUnit := do
  if h : isFirst i = 1#1 then inAll arg1 arg13 harg13 else pure ⟨⟩
  let v3 : Vec F S1x2048x256 .i8 ← Prog.lift (.load arg3 (Rect.unit (s := S1x2048x256) ![0, 0, 0] S1x2048x256.size inb_S1x2048x256_S1x2048x256_0_0_0).toLoadRect (View.loadsAt_vmem h_S1x2048x256))
  let v7 : Vec F S1x256 .f32 ← Prog.lift (.load arg4 (Rect.unit (s := S30x256) (k0_off1 i) S1x256.size (k0_off1_inb i)).toLoadRect (View.loadsAt_vmem h_S1x256))
  let v10 : Vec F S1x256 .f32 ← Prog.lift (.load arg5 (Rect.unit (s := S1x256) ![0, 0] S1x256.size inb_S1x256_S1x256_0_0).toLoadRect (View.loadsAt_vmem h_S1x256))
  row 0 (by decide) (lay i) (wB v3) (wsP v7) (gP v10) arg2 arg6 arg7 arg8 arg9 arg11 harg11 arg13 arg14 arg15
  row 1 (by decide) (lay i) (wB v3) (wsP v7) (gP v10) arg2 arg6 arg7 arg8 arg9 arg11 harg11 arg13 arg14 arg15
  row 2 (by decide) (lay i) (wB v3) (wsP v7) (gP v10) arg2 arg6 arg7 arg8 arg9 arg11 harg11 arg13 arg14 arg15
  row 3 (by decide) (lay i) (wB v3) (wsP v7) (gP v10) arg2 arg6 arg7 arg8 arg9 arg11 harg11 arg13 arg14 arg15
  row 4 (by decide) (lay i) (wB v3) (wsP v7) (gP v10) arg2 arg6 arg7 arg8 arg9 arg11 harg11 arg13 arg14 arg15
  row 5 (by decide) (lay i) (wB v3) (wsP v7) (gP v10) arg2 arg6 arg7 arg8 arg9 arg11 harg11 arg13 arg14 arg15
  if h : k0_cond2 i = 1#1 then outAll arg10 arg12 arg14 arg15 else pure ⟨⟩
  pure ⟨⟩

end Cert.Kernel.Hand

end
-- ==== Proof.BitsBody.lean ====
/- The printed body is the body written tile by tile. -/
module

public import proofs.«01_k».proof.Proof.BitsOps
public import Idealize.ShloMosaic.Lib.Tactic

@[expose] public section

set_option maxRecDepth 65536

noncomputable section

namespace Cert.Kernel.Hand

open Idealize.ShloMosaic Idealize.SL.Sem
open Cert.Kernel Cert.Kernel.Gen

variable {F : FTy → Type} [FloatOps F]

theorem body_eq (i : grid0.Coords) (arg1 : Memref sig .tc .vmem S2304x2048 .i8) (harg1 : arg1.IsWhole) (arg2 : Memref sig .tc .vmem S2304x128 .f32) (harg2 : arg2.IsWhole) (arg3 : Memref sig .tc .vmem S1x2048x256 .i8) (harg3 : arg3.IsWhole) (arg4 : Memref sig .tc .vmem S30x256 .f32) (harg4 : arg4.IsWhole) (arg5 : Memref sig .tc .vmem S1x256 .f32) (harg5 : arg5.IsWhole) (arg6 : Memref sig .tc .vmem S2304x128 .i32) (harg6 : arg6.IsWhole) (arg7 : Memref sig .tc .vmem S2304x128 .f32) (harg7 : arg7.IsWhole) (arg8 : Memref sig .tc .vmem S2304x128 .f32) (harg8 : arg8.IsWhole) (arg9 : Memref sig .tc .vmem S6x1x384x256 .f32) (harg9 : arg9.IsWhole) (arg10 : Memref sig .tc .vmem S6x30x384 .f32) (harg10 : arg10.IsWhole) (arg11 : Memref sig .tc .vmem S6x1x384x256 .i8) (harg11 : arg11.IsWhole) (arg12 : Memref sig .tc .vmem S6x30x384 .f32) (harg12 : arg12.IsWhole) (arg13 : Memref sig .tc .vmem S2304x2048 .bf16) (harg13 : arg13.IsWhole) (arg14 : Memref sig .tc .vmem S2304x128 .f32) (harg14 : arg14.IsWhole) (arg15 : Memref sig .tc .vmem S2304x128 .f32) (harg15 : arg15.IsWhole) :
    cc0_project (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = body i arg1 arg2 arg3 arg4 arg5 arg6 arg7 arg8 arg9 arg10 arg11 harg11 arg12 arg13 harg13 arg14 arg15 := by
  by_cases h : isFirst i = 1#1
  · unfold cc0_project k0_part139 k0_part9 body
    unfold isFirst lay at h
    unfold isFirst lay
    dsimp only
    rw [dif_pos h, dif_pos h]
    sl_kernel_rfl
  · unfold cc0_project k0_part139 k0_part9 body
    unfold isFirst lay at h
    unfold isFirst lay
    dsimp only
    rw [dif_neg h, dif_neg h]
    sl_kernel_rfl

end Cert.Kernel.Hand

end
-- ==== Proof.BitsRules.lean ====
/- Loads and stores through a rectangle of a memref that is owned at known values: a load yields the values under the rectangle, a
   store leaves any values that agree with the payload under the stored positions and with the old values elsewhere. -/
module

public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- A program's weakest precondition on a device's core. -/
abbrev wpk (c : Dev nD) (p : Prog (TpuEff nD τ sig (Elt F) Λ₀ .tc) PUnit) (Q : PUnit → sProp 𝕄) : sProp 𝕄 :=
  wp frame (wpE (defs₀ (F := F)) Variants.none c none) Set.univ p Q

variable {sp : CoreSpace} {s : Shape} {e : EltTy}

/-- A load yields the values under its rectangle. -/
theorem wp_ld (c : Dev nD) (m : Memref sig .tc sp s e) (r : Rect s) (hl : m.view.LoadsAt r.toLoadRect) (X : s.Idx → Elt F e)
    (k : (r.shape.Idx → Elt F e) → Prog (TpuEff nD τ sig (Elt F) Λ₀ .tc) PUnit) (Q : PUnit → sProp 𝕄) :
    owns (c : Thread nD τ) m fullShare X
      ⊢ iprop((owns (c : Thread nD τ) m fullShare X -∗ wpk c (k (fun y => X (r.emb y))) Q) -∗ wpk c (.op (.load m r.toLoadRect hl) k) Q) := by
  unfold owns
  iintro ⟨%f, %hf, H⟩
  iintro K
  iapply (wp_load_rect (m := m) (r := r) Variants.none (c : Thread nD τ) none Set.univ (S := m.view.set) (View.set_slice_subset _ _)) $$ H
  iintro H
  subst hf
  iapply K
  iexists f
  isplitr
  · ipureintro; rfl
  · iexact H

/-- A store leaves the payload under the positions stored and the old values elsewhere. -/
theorem wp_st (c : Dev nD) (m : Memref sig .tc sp s e) (r : Rect s) (w : r.shape.Idx → Elt F e) (Mk : Finset r.shape.Idx) (hx : (m.access r).Stores Mk)
    (hm : Mk = Finset.univ ∨ ∀ a, r.stride a = 1) (X X' : s.Idx → Elt F e)
    (hin : ∀ y ∈ Mk, X' (r.emb y) = w y) (hout : ∀ x, (∀ y ∈ Mk, r.emb y ≠ x) → X' x = X x)
    (k : PUnit → Prog (TpuEff nD τ sig (Elt F) Λ₀ .tc) PUnit) (Q : PUnit → sProp 𝕄) :
    owns (c : Thread nD τ) m fullShare X
      ⊢ iprop((owns (c : Thread nD τ) m fullShare X' -∗ wpk c (k ⟨⟩) Q) -∗ wpk c (.op (.store m r w Mk hx hm) k) Q) := by
  unfold owns
  iintro ⟨%f, %hf, H⟩
  iintro K
  iapply (wp_store (m := m) (r := r) (w := w) (Mk := Mk) Variants.none (c : Thread nD τ) none Set.univ (S := m.view.set)
    ((View.setOn_subset_set _ _).trans (View.set_slice_subset _ _))) $$ H
  iintro H
  subst hf
  iapply K
  iexists _
  isplitr
  swap; · iexact H
  ipureintro
  funext x
  by_cases hxm : x ∈ Mk.map r.emb
  · obtain ⟨y, hy, rfl⟩ := Finset.mem_map.mp hxm
    rw [hin y hy]; exact View.read_slice_write_emb r f w hy
  · rw [hout x (fun y hy hxy => hxm (Finset.mem_map.mpr ⟨y, hy, hxy⟩))]
    exact View.read_slice_write_of_not_mem r f w Mk hxm

end Cert.Kernel.Hand

end
-- ==== Proof.BitsValues.lean ====
/- What one grid point's tiles compute, as functions of the values that the point reads, and the four buffers after some of the tiles
   have been stored: a buffer holds the tiles' values at the positions of the tiles done and its old values elsewhere. -/
module

public import proofs.«01_k».proof.Proof.BitsOps
public import Idealize.ShloMosaic.Lib.Pipeline.Value
public import Idealize.ShloMosaic.Lib.Pointwise.Index

@[expose] public section

set_option maxRecDepth 16384

noncomputable section

namespace Cert.Kernel.Hand

open Idealize.ShloMosaic Idealize.SL.Sem
open Cert.Kernel Cert.Kernel.Gen

variable {F : FTy → Type} [FloatOps F]

/-- The values that one grid point's tiles read. -/
structure In (F : FTy → Type) where
  /-- the layer -/
  a : BitVec 32
  /-- the layer's weights -/
  w : FVec F S2048x256 .bf16
  /-- the layer's weight scales -/
  ws : FVec F S1x256 .f32
  /-- the gains -/
  g : FVec F S1x256 .f32
  /-- the codes -/
  EB : Vec F S2304x2048 .bf16
  /-- the tokens' scales -/
  E2 : Vec F S2304x128 .f32
  /-- the words of the packed table rows -/
  W6 : Vec F S2304x128 .i32
  /-- the scales of the table rows -/
  S7 : Vec F S2304x128 .f32
  /-- the minima of the table rows -/
  M8 : Vec F S2304x128 .f32

namespace In

variable (I : In F) (b k : ℕ) (hb : b < 6) (hk : k < 6)

/-- The product of row `b`. -/
def acc : FVec F S384x256 .f32 :=
  accP (fun y => I.EB ((Rect.unit (s := S2304x2048) ![384 * b, 0] S384x2048.size (inbE b hb)).emb y)) I.w

/-- The rows of a tile of a table. -/
def rows {e : EltTy} (X : Vec F S2304x128 e) : Vec F S64x128 e :=
  fun y => X ((Rect.unit (s := S2304x128) ![384 * b + 64 * k, 0] S64x128.size (inbRow b k hb hk)).emb y)

/-- The projection of a tile. -/
def p : FVec F S64x256 .f32 :=
  pT k hk (I.acc b hb) (fun y => I.E2 ((Rect.unit (s := S2304x128) ![384 * b + 64 * k, 0] S64x1.size (inbCol b k hb hk)).emb y)) I.ws

/-- The root mean squares of a tile. -/
def rms : FVec F S64x1 .f32 := rmsT (I.p b k hb hk)

/-- The lower half of a tile's combination. -/
def c0 : FVec F S64x128 .f32 :=
  combT 0 (by decide) (I.p b k hb hk) (invT (I.rms b k hb hk)) I.g (fieldT 0#32 (wvT (F := F) I.a (rows b k hb hk I.W6)))
    (quarterT I.a 0#32 (rows b k hb hk I.S7)) (quarterT I.a 0#32 (rows b k hb hk I.M8))

/-- The upper half of a tile's combination. -/
def c1 : FVec F S64x128 .f32 :=
  combT 1 (by decide) (I.p b k hb hk) (invT (I.rms b k hb hk)) I.g (fieldT 4#32 (wvT (F := F) I.a (rows b k hb hk I.W6)))
    (quarterT I.a 2#32 (rows b k hb hk I.S7)) (quarterT I.a 2#32 (rows b k hb hk I.M8))

/-- The scales of a tile. -/
def sc : FVec F S64x1 .f32 := scaleT (I.c0 b k hb hk) (I.c1 b k hb hk)

/-- The codes of a half of a tile. -/
def code (h : ℕ) : IVec S64x128 8 :=
  if h = 0 then codesT (I.c0 b k hb hk) (I.sc b k hb hk) else codesT (I.c1 b k hb hk) (I.sc b k hb hk)

/-- The projection at a position of the layer's block. -/
def P (x : S6x1x384x256.Idx) : F .f32 :=
  I.p (x 0).val ((x 2).val / 64) (x 0).isLt (Nat.div_lt_of_lt_mul (x 2).isLt) (ix2 (⟨(x 2).val % 64, Nat.mod_lt _ (by decide)⟩ : Fin 64) (⟨(x 3).val, (x 3).isLt⟩ : Fin 256))

/-- The codes at a position of the layer's block. -/
def C (x : S6x1x384x256.Idx) : BitVec 8 :=
  I.code (x 0).val ((x 2).val / 64) (x 0).isLt (Nat.div_lt_of_lt_mul (x 2).isLt) ((x 3).val / 128)
    (ix2 (⟨(x 2).val % 64, Nat.mod_lt _ (by decide)⟩ : Fin 64) (⟨(x 3).val % 128, Nat.mod_lt _ (by decide)⟩ : Fin 128))

/-- The root mean square of a token. -/
def RMS (r : Fin 2304) : F .f32 :=
  I.rms (r.val / 384) (r.val % 384 / 64) (Nat.div_lt_of_lt_mul r.isLt) (Nat.div_lt_of_lt_mul (Nat.mod_lt _ (by decide)))
    (ix2 (⟨r.val % 64, Nat.mod_lt _ (by decide)⟩ : Fin 64) (0 : Fin 1))

/-- The quantiser's scale of a token. -/
def SC (r : Fin 2304) : F .f32 :=
  I.sc (r.val / 384) (r.val % 384 / 64) (Nat.div_lt_of_lt_mul r.isLt) (Nat.div_lt_of_lt_mul (Nat.mod_lt _ (by decide)))
    (ix2 (⟨r.val % 64, Nat.mod_lt _ (by decide)⟩ : Fin 64) (0 : Fin 1))

/-- The projection's buffer after `n` tiles. -/
def st9 (n : ℕ) (X : Vec F S6x1x384x256 .f32) : Vec F S6x1x384x256 .f32 :=
  fun x => if 6 * (x 0).val + (x 2).val / 64 < n then I.P x else X x

/-- The codes' buffer after `n` half tiles. -/
def st11 (n : ℕ) (X : Vec F S6x1x384x256 .i8) : Vec F S6x1x384x256 .i8 :=
  fun x => if 12 * (x 0).val + 2 * ((x 2).val / 64) + (x 3).val / 128 < n then I.C x else X x

/-- The lane is the layer's own. -/
def own (l : ℕ) : Prop := BitVec.ofNat 32 l = I.a

instance (l : ℕ) : Decidable (I.own l) := by unfold own; infer_instance

/-- The root mean squares' accumulator after `n` tiles. -/
def st14 (n : ℕ) (X : Vec F S2304x128 .f32) : Vec F S2304x128 .f32 :=
  fun x => if (x 0).val / 64 < n ∧ I.own (x 1).val then I.RMS (x 0) else X x

/-- The scales' accumulator after `n` tiles. -/
def st15 (n : ℕ) (X : Vec F S2304x128 .f32) : Vec F S2304x128 .f32 :=
  fun x => if (x 0).val / 64 < n ∧ I.own (x 1).val then I.SC (x 0) else X x

theorem p_congr {b b' k k' : ℕ} {hb : b < 6} {hb' : b' < 6} {hk : k < 6} {hk' : k' < 6} (h : b = b') (h' : k = k') {y y' : S64x256.Idx} (hy : y = y') :
    I.p b k hb hk y = I.p b' k' hb' hk' y' := by subst h; subst h'; subst hy; rfl
theorem rms_congr {b b' k k' : ℕ} {hb : b < 6} {hb' : b' < 6} {hk : k < 6} {hk' : k' < 6} (h : b = b') (h' : k = k') {y y' : S64x1.Idx} (hy : y = y') :
    I.rms b k hb hk y = I.rms b' k' hb' hk' y' := by subst h; subst h'; subst hy; rfl
theorem sc_congr {b b' k k' : ℕ} {hb : b < 6} {hb' : b' < 6} {hk : k < 6} {hk' : k' < 6} (h : b = b') (h' : k = k') {y y' : S64x1.Idx} (hy : y = y') :
    I.sc b k hb hk y = I.sc b' k' hb' hk' y' := by subst h; subst h'; subst hy; rfl
theorem code_congr {b b' k k' j j' : ℕ} {hb : b < 6} {hb' : b' < 6} {hk : k < 6} {hk' : k' < 6} (h : b = b') (h' : k = k') (hj : j = j') {y y' : S64x128.Idx} (hy : y = y') :
    I.code b k hb hk j y = I.code b' k' hb' hk' j' y' := by subst h; subst h'; subst hj; subst hy; rfl

/-! ### What the stores of a tile must find -/

theorem cast_pair (n : ℕ) {α : Type} (v : (⟨2, ![64, n]⟩ : Shape).Idx → α) (h : (⟨2, ![64, n]⟩ : Shape).ShapeCasts ⟨4, ![1, 1, 64, n]⟩)
    (y : (⟨4, ![1, 1, 64, n]⟩ : Shape).Idx) : shapeCast ⟨4, ![1, 1, 64, n]⟩ v h y = v (ix2 (y 2) (y 3)) := by
  refine shapeCast_apply _ h y _ ?_
  have h0 : (y 0).val < 1 := (y 0).isLt
  have h1 : (y 1).val < 1 := (y 1).isLt
  simp only [Shape.rowMajor_val_two, Shape.rowMajor_val_four, ix2_0, ix2_1]
  show (y 2).val * n + (y 3).val = (((y 0).val * 1 + (y 1).val) * 64 + (y 2).val) * n + (y 3).val
  rw [show (y 0).val = 0 by omega, show (y 1).val = 0 by omega]
  simp

theorem st9_in (X : Vec F S6x1x384x256 .f32) (y : S1x1x64x256.Idx) :
    I.st9 (6 * b + k + 1) X ((Rect.unit (s := S6x1x384x256) ![b, 0, 64 * k, 0] S1x1x64x256.size (inbP b k hb hk)).emb y)
      = shapeCast S1x1x64x256 (I.p b k hb hk) shapeCasts_S64x256_S1x1x64x256 y := by
  have h0 : (y 0).val < 1 := (y 0).isLt
  have h2 : (y 2).val < 64 := (y 2).isLt
  refine Eq.trans ?_ (cast_pair 256 _ _ y).symm
  unfold st9 P
  simp only [Rect.emb_apply]
  have e0 : b + 1 * (y 0).val = b := by omega
  have e2 : 64 * k + 1 * (y 2).val = 64 * k + (y 2).val := by omega
  show (if 6 * (b + 1 * (y 0).val) + (64 * k + 1 * (y 2).val) / 64 < 6 * b + k + 1 then _ else _) = _
  rw [if_pos (by omega)]
  refine I.p_congr (show b + 1 * (y 0).val = b from e0) (show (64 * k + 1 * (y 2).val) / 64 = k by omega) ?_
  refine congrArg₂ ix2 (Fin.ext ?_) (Fin.ext ?_)
  · show (64 * k + 1 * (y 2).val) % 64 = (y 2).val; omega
  · show 0 + 1 * (y 3).val = (y 3).val; omega

theorem st9_out (X : Vec F S6x1x384x256 .f32) (x : S6x1x384x256.Idx)
    (h : ∀ y ∈ (Finset.univ : Finset S1x1x64x256.Idx), (Rect.unit (s := S6x1x384x256) ![b, 0, 64 * k, 0] S1x1x64x256.size (inbP b k hb hk)).emb y ≠ x) :
    I.st9 (6 * b + k + 1) X x = I.st9 (6 * b + k) X x := by
  unfold st9
  have h0 : (x 0).val < 6 := (x 0).isLt
  have h1 : (x 1).val < 1 := (x 1).isLt
  have h2 : (x 2).val < 384 := (x 2).isLt
  by_cases hc : 6 * (x 0).val + (x 2).val / 64 = 6 * b + k
  · refine absurd ?_ (h (ix4 (0 : Fin 1) (0 : Fin 1) (⟨(x 2).val % 64, Nat.mod_lt _ (by decide)⟩ : Fin 64) (⟨(x 3).val, (x 3).isLt⟩ : Fin 256)) (Finset.mem_univ _))
    funext a; apply Fin.ext; rw [Rect.emb_apply]
    fin_cases a
    · show b + 1 * 0 = (x 0).val; omega
    · show 0 + 1 * 0 = (x 1).val; omega
    · show 64 * k + 1 * ((x 2).val % 64) = (x 2).val; omega
    · show 0 + 1 * (x 3).val = (x 3).val; omega
  · by_cases hl : 6 * (x 0).val + (x 2).val / 64 < 6 * b + k
    · rw [if_pos hl, if_pos (by omega)]
    · rw [if_neg hl, if_neg (by omega)]

theorem st11_in (h : ℕ) (hh : h < 2) (X : Vec F S6x1x384x256 .i8) (y : S1x1x64x128.Idx) :
    I.st11 (12 * b + 2 * k + h + 1) X ((Rect.unit (s := S6x1x384x256) ![b, 0, 64 * k, 128 * h] S1x1x64x128.size (inbC b k h hb hk hh)).emb y)
      = shapeCast (α := BitVec 8) S1x1x64x128 (I.code b k hb hk h) shapeCasts_S64x128_S1x1x64x128 y := by
  have h0 : (y 0).val < 1 := (y 0).isLt
  have h2 : (y 2).val < 64 := (y 2).isLt
  have h3 : (y 3).val < 128 := (y 3).isLt
  refine Eq.trans ?_ (cast_pair 128 _ _ y).symm
  unfold st11 C
  simp only [Rect.emb_apply]
  show (if 12 * (b + 1 * (y 0).val) + 2 * ((64 * k + 1 * (y 2).val) / 64) + (128 * h + 1 * (y 3).val) / 128 < 12 * b + 2 * k + h + 1 then _ else _) = _
  rw [if_pos (by omega)]
  refine I.code_congr (show b + 1 * (y 0).val = b by omega) (show (64 * k + 1 * (y 2).val) / 64 = k by omega)
    (show (128 * h + 1 * (y 3).val) / 128 = h by omega) ?_
  refine congrArg₂ ix2 (Fin.ext ?_) (Fin.ext ?_)
  · show (64 * k + 1 * (y 2).val) % 64 = (y 2).val; omega
  · show (128 * h + 1 * (y 3).val) % 128 = (y 3).val; omega

theorem st11_out (h : ℕ) (hh : h < 2) (X : Vec F S6x1x384x256 .i8) (x : S6x1x384x256.Idx)
    (hx : ∀ y ∈ (Finset.univ : Finset S1x1x64x128.Idx), (Rect.unit (s := S6x1x384x256) ![b, 0, 64 * k, 128 * h] S1x1x64x128.size (inbC b k h hb hk hh)).emb y ≠ x) :
    I.st11 (12 * b + 2 * k + h + 1) X x = I.st11 (12 * b + 2 * k + h) X x := by
  unfold st11
  have h0 : (x 0).val < 6 := (x 0).isLt
  have h1 : (x 1).val < 1 := (x 1).isLt
  have h2 : (x 2).val < 384 := (x 2).isLt
  have h3 : (x 3).val < 256 := (x 3).isLt
  by_cases hc : 12 * (x 0).val + 2 * ((x 2).val / 64) + (x 3).val / 128 = 12 * b + 2 * k + h
  · refine absurd ?_ (hx (ix4 (0 : Fin 1) (0 : Fin 1) (⟨(x 2).val % 64, Nat.mod_lt _ (by decide)⟩ : Fin 64) (⟨(x 3).val % 128, Nat.mod_lt _ (by decide)⟩ : Fin 128)) (Finset.mem_univ _))
    funext a; apply Fin.ext; rw [Rect.emb_apply]
    fin_cases a
    · show b + 1 * 0 = (x 0).val; omega
    · show 0 + 1 * 0 = (x 1).val; omega
    · show 64 * k + 1 * ((x 2).val % 64) = (x 2).val; omega
    · show 128 * h + 1 * ((x 3).val % 128) = (x 3).val; omega
  · by_cases hl : 12 * (x 0).val + 2 * ((x 2).val / 64) + (x 3).val / 128 < 12 * b + 2 * k + h
    · rw [if_pos hl, if_pos (by omega)]
    · rw [if_neg hl, if_neg (by omega)]

/-- The mask holds the layer's own lane. -/
theorem mem_mask (y : S64x128.Idx) : y ∈ IVec.on (maskT I.a) ↔ I.own (y 1).val := by
  unfold IVec.on maskT onL lane own
  rw [shapeCast_self]
  simp only [Finset.mem_filter, Finset.mem_univ, true_and]
  show cmpi .eq _ _ y = 1#1 ↔ _
  have : iota .tc S64x128 32 [1] iota_S64x128_d1_w32 y = BitVec.ofNat 32 (y 1).val := iota_single_apply _ _ _ _ _ _
  unfold cmpi
  show Scalar.cmpi .eq (iota .tc S64x128 32 [1] iota_S64x128_d1_w32 y) (broadcast S64x128 I.a y) = 1#1 ↔ _
  rw [this]
  show Scalar.cmpi .eq (BitVec.ofNat 32 (y 1).val) I.a = 1#1 ↔ _
  unfold Scalar.cmpi
  by_cases hc : BitVec.ofNat 32 (y 1).val = I.a
  · simp [IntOp.cmpi, hc]
  · simp only [IntOp.cmpi, hc, iff_false]
    rw [beq_eq_false_iff_ne.mpr hc]; decide

theorem wide_apply (v : FVec F S64x1 .f32) (y : S64x128.Idx) : wide v y = v (ix2 (y 0) (0 : Fin 1)) := by
  unfold wide
  rw [shapeCast_self, shapeCast_self]
  refine broadcastTo_apply _ _ y _ ?_
  intro a; fin_cases a <;> rfl

theorem st14_in (X : Vec F S2304x128 .f32) (y : S64x128.Idx) (hy : y ∈ IVec.on (maskT I.a)) :
    I.st14 (6 * b + k + 1) X ((Rect.unit (s := S2304x128) ![384 * b + 64 * k, 0] S64x128.size (inbRow b k hb hk)).emb y) = wide (I.rms b k hb hk) y := by
  have h0 : (y 0).val < 64 := (y 0).isLt
  have h1 : (y 1).val < 128 := (y 1).isLt
  rw [mem_mask] at hy
  rw [wide_apply]
  unfold st14 RMS
  simp only [Rect.emb_apply]
  show (if (384 * b + 64 * k + 1 * (y 0).val) / 64 < 6 * b + k + 1 ∧ I.own (0 + 1 * (y 1).val) then _ else _) = _
  rw [show 0 + 1 * (y 1).val = (y 1).val by omega, if_pos ⟨by omega, hy⟩]
  refine I.rms_congr (show (384 * b + 64 * k + 1 * (y 0).val) / 384 = b by omega) (show (384 * b + 64 * k + 1 * (y 0).val) % 384 / 64 = k by omega) ?_
  refine congrArg₂ ix2 (Fin.ext ?_) rfl
  show (384 * b + 64 * k + 1 * (y 0).val) % 64 = (y 0).val; omega

theorem st14_out (X : Vec F S2304x128 .f32) (x : S2304x128.Idx)
    (h : ∀ y ∈ IVec.on (maskT I.a), (Rect.unit (s := S2304x128) ![384 * b + 64 * k, 0] S64x128.size (inbRow b k hb hk)).emb y ≠ x) :
    I.st14 (6 * b + k + 1) X x = I.st14 (6 * b + k) X x := by
  unfold st14
  have h0 : (x 0).val < 2304 := (x 0).isLt
  by_cases ho : I.own (x 1).val
  swap; · rw [if_neg (fun h => ho h.2), if_neg (fun h => ho h.2)]
  by_cases hc : (x 0).val / 64 = 6 * b + k
  · refine absurd ?_ (h (ix2 (⟨(x 0).val % 64, Nat.mod_lt _ (by decide)⟩ : Fin 64) (⟨(x 1).val, (x 1).isLt⟩ : Fin 128)) ((I.mem_mask _).mpr ho))
    funext a; apply Fin.ext; rw [Rect.emb_apply]
    fin_cases a
    · show 384 * b + 64 * k + 1 * ((x 0).val % 64) = (x 0).val; omega
    · show 0 + 1 * (x 1).val = (x 1).val; omega
  · by_cases hl : (x 0).val / 64 < 6 * b + k
    · rw [if_pos ⟨by omega, ho⟩, if_pos ⟨hl, ho⟩]
    · rw [if_neg (fun h => by have := h.1; omega), if_neg (fun h => hl h.1)]

theorem st15_in (X : Vec F S2304x128 .f32) (y : S64x128.Idx) (hy : y ∈ IVec.on (maskT I.a)) :
    I.st15 (6 * b + k + 1) X ((Rect.unit (s := S2304x128) ![384 * b + 64 * k, 0] S64x128.size (inbRow b k hb hk)).emb y) = wide (I.sc b k hb hk) y := by
  have h0 : (y 0).val < 64 := (y 0).isLt
  have h1 : (y 1).val < 128 := (y 1).isLt
  rw [mem_mask] at hy
  rw [wide_apply]
  unfold st15 SC
  simp only [Rect.emb_apply]
  show (if (384 * b + 64 * k + 1 * (y 0).val) / 64 < 6 * b + k + 1 ∧ I.own (0 + 1 * (y 1).val) then _ else _) = _
  rw [show 0 + 1 * (y 1).val = (y 1).val by omega, if_pos ⟨by omega, hy⟩]
  refine I.sc_congr (show (384 * b + 64 * k + 1 * (y 0).val) / 384 = b by omega) (show (384 * b + 64 * k + 1 * (y 0).val) % 384 / 64 = k by omega) ?_
  refine congrArg₂ ix2 (Fin.ext ?_) rfl
  show (384 * b + 64 * k + 1 * (y 0).val) % 64 = (y 0).val; omega

theorem st15_out (X : Vec F S2304x128 .f32) (x : S2304x128.Idx)
    (h : ∀ y ∈ IVec.on (maskT I.a), (Rect.unit (s := S2304x128) ![384 * b + 64 * k, 0] S64x128.size (inbRow b k hb hk)).emb y ≠ x) :
    I.st15 (6 * b + k + 1) X x = I.st15 (6 * b + k) X x := by
  unfold st15
  have h0 : (x 0).val < 2304 := (x 0).isLt
  by_cases ho : I.own (x 1).val
  swap; · rw [if_neg (fun h => ho h.2), if_neg (fun h => ho h.2)]
  by_cases hc : (x 0).val / 64 = 6 * b + k
  · refine absurd ?_ (h (ix2 (⟨(x 0).val % 64, Nat.mod_lt _ (by decide)⟩ : Fin 64) (⟨(x 1).val, (x 1).isLt⟩ : Fin 128)) ((I.mem_mask _).mpr ho))
    funext a; apply Fin.ext; rw [Rect.emb_apply]
    fin_cases a
    · show 384 * b + 64 * k + 1 * ((x 0).val % 64) = (x 0).val; omega
    · show 0 + 1 * (x 1).val = (x 1).val; omega
  · by_cases hl : (x 0).val / 64 < 6 * b + k
    · rw [if_pos ⟨by omega, ho⟩, if_pos ⟨hl, ho⟩]
    · rw [if_neg (fun h => by have := h.1; omega), if_neg (fun h => hl h.1)]

end In

end Cert.Kernel.Hand

end
-- ==== Proof.BitsTile.lean ====
/- One tile's program takes the four buffers from the state after some tiles to the state after one more. -/
module

public import proofs.«01_k».proof.Proof.BitsRules
public import proofs.«01_k».proof.Proof.BitsValues

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- What a tile holds: the tables that it reads, and the four buffers after `n` tiles. -/
def held (c : Dev nD) (I : In F) (arg2 : Memref sig .tc .vmem S2304x128 .f32) (arg6 : Memref sig .tc .vmem S2304x128 .i32)
    (arg7 arg8 : Memref sig .tc .vmem S2304x128 .f32) (arg9 : Memref sig .tc .vmem S6x1x384x256 .f32) (arg11 : Memref sig .tc .vmem S6x1x384x256 .i8)
    (arg14 arg15 : Memref sig .tc .vmem S2304x128 .f32) (X9 : Vec F S6x1x384x256 .f32) (X11 : Vec F S6x1x384x256 .i8) (X14 X15 : Vec F S2304x128 .f32)
    (n : ℕ) : sProp 𝕄 :=
  iprop(owns (c : Thread nD τ) arg2 fullShare I.E2 ∗ owns (c : Thread nD τ) arg6 fullShare I.W6 ∗ owns (c : Thread nD τ) arg7 fullShare I.S7
    ∗ owns (c : Thread nD τ) arg8 fullShare I.M8 ∗ owns (c : Thread nD τ) arg9 fullShare (I.st9 n X9) ∗ owns (c : Thread nD τ) arg11 fullShare (I.st11 (2 * n) X11)
    ∗ owns (c : Thread nD τ) arg14 fullShare (I.st14 n X14) ∗ owns (c : Thread nD τ) arg15 fullShare (I.st15 n X15))

set_option maxHeartbeats 8000000 in
/-- One tile. -/
theorem wp_tile (c : Dev nD) (I : In F) (b k : ℕ) (hb : b < 6) (hk : k < 6) (arg2 : Memref sig .tc .vmem S2304x128 .f32) (arg6 : Memref sig .tc .vmem S2304x128 .i32)
    (arg7 arg8 : Memref sig .tc .vmem S2304x128 .f32) (arg9 : Memref sig .tc .vmem S6x1x384x256 .f32) (arg11 : Memref sig .tc .vmem S6x1x384x256 .i8) (harg11 : arg11.IsWhole)
    (arg14 arg15 : Memref sig .tc .vmem S2304x128 .f32) (X9 : Vec F S6x1x384x256 .f32) (X11 : Vec F S6x1x384x256 .i8) (X14 X15 : Vec F S2304x128 .f32)
    (K : PUnit → Prog (TpuEff nD τ sig (Elt F) Λ₀ .tc) PUnit) (Q : PUnit → sProp 𝕄) :
    held c I arg2 arg6 arg7 arg8 arg9 arg11 arg14 arg15 X9 X11 X14 X15 (6 * b + k)
      ⊢ iprop((held c I arg2 arg6 arg7 arg8 arg9 arg11 arg14 arg15 X9 X11 X14 X15 (6 * b + k + 1) -∗ wpk c (K ⟨⟩) Q)
        -∗ wpk c (tile b k hb hk I.a I.ws I.g (I.acc b hb) arg2 arg6 arg7 arg8 arg9 arg11 harg11 arg14 arg15 >>= K) Q) := by
  unfold held tile
  rw [show 2 * (6 * b + k) = 12 * b + 2 * k + 0 by ring, show 2 * (6 * b + k + 1) = 12 * b + 2 * k + 1 + 1 by ring]
  simp only [Prog.bind_lift, Prog.bind_op]
  iintro ⟨H2, H6, H7, H8, H9, H11, H14, H15⟩
  iintro HK
  iapply (wp_ld c arg2) $$ H2
  iintro H2
  iapply (wp_ld c arg9) $$ H9
  iintro H9
  iapply (wp_st c arg9 _ (shapeCast S1x1x64x256 (I.p b k hb hk) shapeCasts_S64x256_S1x1x64x256) _ _ _ _ (I.st9 (6 * b + k + 1) X9) (fun y _ => I.st9_in b k hb hk X9 y) (fun x hx => I.st9_out b k hb hk X9 x hx)) $$ H9
  iintro H9
  iapply (wp_ld c arg14) $$ H14
  iintro H14
  iapply (wp_st c arg14 _ (wide (I.rms b k hb hk)) _ _ _ _ (I.st14 (6 * b + k + 1) X14) (fun y hy => I.st14_in b k hb hk X14 y hy) (fun x hx => I.st14_out b k hb hk X14 x hx)) $$ H14
  iintro H14
  iapply (wp_ld c arg6) $$ H6
  iintro H6
  iapply (wp_ld c arg7) $$ H7
  iintro H7
  iapply (wp_ld c arg8) $$ H8
  iintro H8
  iapply (wp_ld c arg7) $$ H7
  iintro H7
  iapply (wp_ld c arg8) $$ H8
  iintro H8
  iapply (wp_ld c arg15) $$ H15
  iintro H15
  iapply (wp_st c arg15 _ (wide (I.sc b k hb hk)) _ _ _ _ (I.st15 (6 * b + k + 1) X15) (fun y hy => I.st15_in b k hb hk X15 y hy) (fun x hx => I.st15_out b k hb hk X15 x hx)) $$ H15
  iintro H15
  iapply (wp_ld c arg11) $$ H11
  iintro H11
  iapply (wp_st c arg11 _ (shapeCast (α := BitVec 8) S1x1x64x128 (codesT (I.c0 b k hb hk) (I.sc b k hb hk)) shapeCasts_S64x128_S1x1x64x128) _ _ _ _ (I.st11 (12 * b + 2 * k + 0 + 1) X11) (fun y _ => I.st11_in b k hb hk 0 (by decide) X11 y) (fun x hx => I.st11_out b k hb hk 0 (by decide) X11 x hx)) $$ H11
  iintro H11
  iapply (wp_ld c arg11) $$ H11
  iintro H11
  iapply (wp_st c arg11 _ (shapeCast (α := BitVec 8) S1x1x64x128 (codesT (I.c1 b k hb hk) (I.sc b k hb hk)) shapeCasts_S64x128_S1x1x64x128) _ _ _ _ (I.st11 (12 * b + 2 * k + 1 + 1) X11) (fun y _ => I.st11_in b k hb hk 1 (by decide) X11 y) (fun x hx => I.st11_out b k hb hk 1 (by decide) X11 x hx)) $$ H11
  iintro H11
  iapply HK
  isplitl [H2]; · iexact H2
  isplitl [H6]; · iexact H6
  isplitl [H7]; · iexact H7
  isplitl [H8]; · iexact H8
  isplitl [H9]; · iexact H9
  isplitl [H11]; · iexact H11
  isplitl [H14]; · iexact H14
  iexact H15

end Cert.Kernel.Hand

end
-- ==== Proof.BitsRows.lean ====
/- The programs of a batch row, of the codes' conversion and of the two transposed results, on buffers owned at known values. -/
module

public import proofs.«01_k».proof.Proof.BitsTile

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 2000000 in
/-- One batch row: six tiles. -/
theorem wp_row (c : Dev nD) (I : In F) (b : ℕ) (hb : b < 6) (arg2 : Memref sig .tc .vmem S2304x128 .f32) (arg6 : Memref sig .tc .vmem S2304x128 .i32)
    (arg7 arg8 : Memref sig .tc .vmem S2304x128 .f32) (arg9 : Memref sig .tc .vmem S6x1x384x256 .f32) (arg11 : Memref sig .tc .vmem S6x1x384x256 .i8) (harg11 : arg11.IsWhole)
    (arg13 : Memref sig .tc .vmem S2304x2048 .bf16)
    (arg14 arg15 : Memref sig .tc .vmem S2304x128 .f32) (X9 : Vec F S6x1x384x256 .f32) (X11 : Vec F S6x1x384x256 .i8) (X14 X15 : Vec F S2304x128 .f32)
    (K : PUnit → Prog (TpuEff nD τ sig (Elt F) Λ₀ .tc) PUnit) (Q : PUnit → sProp 𝕄) :
    iprop(owns (c : Thread nD τ) arg13 fullShare I.EB ∗ held c I arg2 arg6 arg7 arg8 arg9 arg11 arg14 arg15 X9 X11 X14 X15 (6 * b))
      ⊢ iprop((iprop(owns (c : Thread nD τ) arg13 fullShare I.EB ∗ held c I arg2 arg6 arg7 arg8 arg9 arg11 arg14 arg15 X9 X11 X14 X15 (6 * (b + 1))) -∗ wpk c (K ⟨⟩) Q)
        -∗ wpk c (row b hb I.a I.w I.ws I.g arg2 arg6 arg7 arg8 arg9 arg11 harg11 arg13 arg14 arg15 >>= K) Q) := by
  unfold row
  simp only [Prog.bind_lift, Prog.bind_op, bind_assoc]
  iintro ⟨H13, H⟩
  iintro HK
  iapply (wp_ld c arg13) $$ H13
  iintro H13
  iapply (wp_tile c I b 0 hb _ arg2 arg6 arg7 arg8 arg9 arg11 harg11 arg14 arg15 X9 X11 X14 X15) $$ H
  iintro H
  iapply (wp_tile c I b 1 hb _ arg2 arg6 arg7 arg8 arg9 arg11 harg11 arg14 arg15 X9 X11 X14 X15) $$ H
  iintro H
  iapply (wp_tile c I b 2 hb _ arg2 arg6 arg7 arg8 arg9 arg11 harg11 arg14 arg15 X9 X11 X14 X15) $$ H
  iintro H
  iapply (wp_tile c I b 3 hb _ arg2 arg6 arg7 arg8 arg9 arg11 harg11 arg14 arg15 X9 X11 X14 X15) $$ H
  iintro H
  iapply (wp_tile c I b 4 hb _ arg2 arg6 arg7 arg8 arg9 arg11 harg11 arg14 arg15 X9 X11 X14 X15) $$ H
  iintro H
  iapply (wp_tile c I b 5 hb _ arg2 arg6 arg7 arg8 arg9 arg11 harg11 arg14 arg15 X9 X11 X14 X15) $$ H
  iintro H
  iapply HK
  isplitl [H13]; · iexact H13
  iexact H

/-! ## The codes as bf16 -/

/-- The scratch of codes after `n` rows' conversion. -/
def stE (E1 : Vec F S2304x2048 .i8) (n : ℕ) (X : Vec F S2304x2048 .bf16) : Vec F S2304x2048 .bf16 :=
  fun x => if (x 0).val / 384 < n then sitofp .bf16 (E1 : IVec S2304x2048 8) x else X x

theorem wp_inOne (c : Dev nD) (b : ℕ) (hb : b < 6) (arg1 : Memref sig .tc .vmem S2304x2048 .i8) (arg13 : Memref sig .tc .vmem S2304x2048 .bf16) (harg13 : arg13.IsWhole)
    (E1 : Vec F S2304x2048 .i8) (X : Vec F S2304x2048 .bf16) (K : PUnit → Prog (TpuEff nD τ sig (Elt F) Λ₀ .tc) PUnit) (Q : PUnit → sProp 𝕄) :
    iprop(owns (c : Thread nD τ) arg1 fullShare E1 ∗ owns (c : Thread nD τ) arg13 fullShare (stE E1 b X))
      ⊢ iprop((iprop(owns (c : Thread nD τ) arg1 fullShare E1 ∗ owns (c : Thread nD τ) arg13 fullShare (stE E1 (b + 1) X)) -∗ wpk c (K ⟨⟩) Q)
        -∗ wpk c (inOne b hb arg1 arg13 harg13 >>= K) Q) := by
  unfold inOne
  simp only [Prog.bind_lift, Prog.bind_op, bind_assoc]
  iintro ⟨H1, H13⟩
  iintro HK
  iapply (wp_ld c arg1) $$ H1
  iintro H1
  iapply (wp_ld c arg13) $$ H13
  iintro H13
  iapply (wp_st c arg13 _ (eT (fun y => E1 ((Rect.unit (s := S2304x2048) ![384 * b, 0] S384x2048.size (inbE b hb)).emb y))) _ _ _ _ (stE E1 (b + 1) X) ?_ ?_) $$ H13
  · intro y _
    have h0 : (y 0).val < 384 := (y 0).isLt
    unfold stE eT
    rw [shapeCast_self]
    simp only [Rect.emb_apply]
    show (if (384 * b + 1 * (y 0).val) / 384 < b + 1 then _ else _) = _
    rw [if_pos (by omega)]
    rfl
  · intro x hx
    have h0 : (x 0).val < 2304 := (x 0).isLt
    unfold stE
    by_cases hc : (x 0).val / 384 = b
    · refine absurd ?_ (hx (ix2 (⟨(x 0).val % 384, Nat.mod_lt _ (by decide)⟩ : Fin 384) (⟨(x 1).val, (x 1).isLt⟩ : Fin 2048)) (Finset.mem_univ _))
      funext a; apply Fin.ext; rw [Rect.emb_apply]
      fin_cases a
      · show 384 * b + 1 * ((x 0).val % 384) = (x 0).val; omega
      · show 0 + 1 * (x 1).val = (x 1).val; omega
    · by_cases hl : (x 0).val / 384 < b
      · rw [if_pos hl, if_pos (by omega)]
      · rw [if_neg hl, if_neg (by omega)]
  iintro H13
  iapply HK
  isplitl [H1]; · iexact H1
  iexact H13

/-- All codes: whatever the scratch held, it holds the codes as bf16. -/
theorem wp_inAll (c : Dev nD) (arg1 : Memref sig .tc .vmem S2304x2048 .i8) (arg13 : Memref sig .tc .vmem S2304x2048 .bf16) (harg13 : arg13.IsWhole)
    (E1 : Vec F S2304x2048 .i8) (X : Vec F S2304x2048 .bf16) (K : PUnit → Prog (TpuEff nD τ sig (Elt F) Λ₀ .tc) PUnit) (Q : PUnit → sProp 𝕄) :
    iprop(owns (c : Thread nD τ) arg1 fullShare E1 ∗ owns (c : Thread nD τ) arg13 fullShare X)
      ⊢ iprop((iprop(owns (c : Thread nD τ) arg1 fullShare E1 ∗ owns (c : Thread nD τ) arg13 fullShare (sitofp .bf16 (E1 : IVec S2304x2048 8))) -∗ wpk c (K ⟨⟩) Q)
        -∗ wpk c (inAll arg1 arg13 harg13 >>= K) Q) := by
  have e0 : stE E1 0 X = X := funext fun x => if_neg (Nat.not_lt_zero _)
  have e6 : stE E1 (5 + 1) X = sitofp .bf16 (E1 : IVec S2304x2048 8) := funext fun x => if_pos (Nat.div_lt_of_lt_mul (x 0).isLt)
  unfold inAll
  simp only [bind_assoc]
  rw [← e6]
  iintro ⟨H1, H13⟩
  iintro HK
  iapply (wp_inOne c 0 _ arg1 arg13 harg13 E1 X) $$ [H1 H13]
  · rw [e0]; isplitl [H1]; · iexact H1
    iexact H13
  iintro H
  iapply (wp_inOne c 1 _ arg1 arg13 harg13 E1 X) $$ H
  iintro H
  iapply (wp_inOne c 2 _ arg1 arg13 harg13 E1 X) $$ H
  iintro H
  iapply (wp_inOne c 3 _ arg1 arg13 harg13 E1 X) $$ H
  iintro H
  iapply (wp_inOne c 4 _ arg1 arg13 harg13 E1 X) $$ H
  iintro H
  iapply (wp_inOne c 5 _ arg1 arg13 harg13 E1 X) $$ H
  iintro H
  iapply HK
  iexact H

/-! ## The transposed results -/

/-- An accumulator transposed: row `b`'s tokens of a layer. -/
def outF (A : Vec F S2304x128 .f32) (x : S6x30x384.Idx) : F .f32 :=
  A (ix2 (⟨384 * (x 0).val + (x 2).val, by have h0 : (x 0).val < 6 := (x 0).isLt; have h2 : (x 2).val < 384 := (x 2).isLt; omega⟩ : Fin 2304)
    (⟨(x 1).val, by have h1 : (x 1).val < 30 := (x 1).isLt; omega⟩ : Fin 128))

/-- A result after `n` blocks. -/
def stO (A : Vec F S2304x128 .f32) (n : ℕ) (X : Vec F S6x30x384 .f32) : Vec F S6x30x384 .f32 :=
  fun x => if 3 * (x 0).val + (x 2).val / 128 < n then outF A x else X x

theorem outT_apply (x : Vec F S128x128 .f32) (y : S1x30x128.Idx) :
    outT x y = x (ix2 (⟨(y 2).val, (y 2).isLt⟩ : Fin 128) (⟨(y 1).val, by have h1 : (y 1).val < 30 := (y 1).isLt; omega⟩ : Fin 128)) := by
  unfold outT
  have h0 : (y 0).val < 1 := (y 0).isLt
  rw [shapeCast_apply _ _ y (ix2 (⟨(y 1).val, (y 1).isLt⟩ : Fin 30) (⟨(y 2).val, (y 2).isLt⟩ : Fin 128)) (by
    simp only [Shape.rowMajor_val_two, Shape.rowMajor_val_three, ix2_0, ix2_1]
    show (y 1).val * 128 + (y 2).val = ((y 0).val * 30 + (y 1).val) * 128 + (y 2).val
    omega)]
  unfold extractStridedSlice transpose
  refine congrArg x (funext fun a => Fin.ext ?_)
  fin_cases a
  · show 0 + (y 2).val = (y 2).val; omega
  · show 0 + (y 1).val = (y 1).val; omega

theorem wp_outOne (c : Dev nD) (b k : ℕ) (hb : b < 6) (hk : k < 3) (src : Memref sig .tc .vmem S2304x128 .f32) (dst : Memref sig .tc .vmem S6x30x384 .f32)
    (A : Vec F S2304x128 .f32) (X : Vec F S6x30x384 .f32) (K : PUnit → Prog (TpuEff nD τ sig (Elt F) Λ₀ .tc) PUnit) (Q : PUnit → sProp 𝕄) :
    iprop(owns (c : Thread nD τ) src fullShare A ∗ owns (c : Thread nD τ) dst fullShare (stO A (3 * b + k) X))
      ⊢ iprop((iprop(owns (c : Thread nD τ) src fullShare A ∗ owns (c : Thread nD τ) dst fullShare (stO A (3 * b + k + 1) X)) -∗ wpk c (K ⟨⟩) Q)
        -∗ wpk c (outOne b k hb hk src dst >>= K) Q) := by
  unfold outOne
  simp only [Prog.bind_lift, Prog.bind_op, bind_assoc]
  iintro ⟨H1, H13⟩
  iintro HK
  iapply (wp_ld c src) $$ H1
  iintro H1
  iapply (wp_ld c dst) $$ H13
  iintro H13
  iapply (wp_st c dst _ (outT (fun y => A ((Rect.unit (s := S2304x128) ![384 * b + 128 * k, 0] S128x128.size (inbAcc b k hb hk)).emb y))) _ _ _ _ (stO A (3 * b + k + 1) X) ?_ ?_) $$ H13
  · intro y _
    have h0 : (y 0).val < 1 := (y 0).isLt
    have h1 : (y 1).val < 30 := (y 1).isLt
    have h2 : (y 2).val < 128 := (y 2).isLt
    rw [outT_apply]
    unfold stO outF
    show (if 3 * (b + 1 * (y 0).val) + (128 * k + 1 * (y 2).val) / 128 < 3 * b + k + 1 then _ else _) = _
    rw [if_pos (by omega)]
    refine congrArg A (funext fun a => Fin.ext ?_)
    fin_cases a
    · show 384 * (b + 1 * (y 0).val) + (128 * k + 1 * (y 2).val) = 384 * b + 128 * k + 1 * (y 2).val; omega
    · show 0 + 1 * (y 1).val = 0 + 1 * (y 1).val; rfl
  · intro x hx
    have h0 : (x 0).val < 6 := (x 0).isLt
    have h2 : (x 2).val < 384 := (x 2).isLt
    unfold stO
    by_cases hc : 3 * (x 0).val + (x 2).val / 128 = 3 * b + k
    · refine absurd ?_ (hx (ix3 (0 : Fin 1) (⟨(x 1).val, (x 1).isLt⟩ : Fin 30) (⟨(x 2).val % 128, Nat.mod_lt _ (by decide)⟩ : Fin 128)) (Finset.mem_univ _))
      funext a; apply Fin.ext; rw [Rect.emb_apply]
      fin_cases a
      · show b + 1 * 0 = (x 0).val; omega
      · show 0 + 1 * (x 1).val = (x 1).val; omega
      · show 128 * k + 1 * ((x 2).val % 128) = (x 2).val; omega
    · by_cases hl : 3 * (x 0).val + (x 2).val / 128 < 3 * b + k
      · rw [if_pos hl, if_pos (by omega)]
      · rw [if_neg hl, if_neg (by omega)]
  iintro H13
  iapply HK
  isplitl [H1]; · iexact H1
  iexact H13

/-- What the two transposed results hold while they are written. -/
def heldO (c : Dev nD) (arg10 arg12 : Memref sig .tc .vmem S6x30x384 .f32) (arg14 arg15 : Memref sig .tc .vmem S2304x128 .f32)
    (A14 A15 : Vec F S2304x128 .f32) (X10 X12 : Vec F S6x30x384 .f32) (n : ℕ) : sProp 𝕄 :=
  iprop(iprop(owns (c : Thread nD τ) arg14 fullShare A14 ∗ owns (c : Thread nD τ) arg10 fullShare (stO A14 n X10))
    ∗ iprop(owns (c : Thread nD τ) arg15 fullShare A15 ∗ owns (c : Thread nD τ) arg12 fullShare (stO A15 n X12)))

set_option maxHeartbeats 2000000 in
/-- One batch row of both results. -/
theorem wp_outRow (c : Dev nD) (b : ℕ) (hb : b < 6) (arg10 arg12 : Memref sig .tc .vmem S6x30x384 .f32) (arg14 arg15 : Memref sig .tc .vmem S2304x128 .f32)
    (A14 A15 : Vec F S2304x128 .f32) (X10 X12 : Vec F S6x30x384 .f32) (K : PUnit → Prog (TpuEff nD τ sig (Elt F) Λ₀ .tc) PUnit) (Q : PUnit → sProp 𝕄) :
    heldO c arg10 arg12 arg14 arg15 A14 A15 X10 X12 (3 * b)
      ⊢ iprop((heldO c arg10 arg12 arg14 arg15 A14 A15 X10 X12 (3 * (b + 1)) -∗ wpk c (K ⟨⟩) Q)
        -∗ wpk c (outRow b hb arg10 arg12 arg14 arg15 >>= K) Q) := by
  unfold heldO outRow
  simp only [bind_assoc]
  iintro ⟨HA, HB⟩
  iintro HK
  iapply (wp_outOne c b 0 hb _ arg14 arg10 A14 X10) $$ HA
  iintro HA
  iapply (wp_outOne c b 0 hb _ arg15 arg12 A15 X12) $$ HB
  iintro HB
  iapply (wp_outOne c b 1 hb _ arg14 arg10 A14 X10) $$ HA
  iintro HA
  iapply (wp_outOne c b 1 hb _ arg15 arg12 A15 X12) $$ HB
  iintro HB
  iapply (wp_outOne c b 2 hb _ arg14 arg10 A14 X10) $$ HA
  iintro HA
  iapply (wp_outOne c b 2 hb _ arg15 arg12 A15 X12) $$ HB
  iintro HB
  iapply HK
  isplitl [HA]; · iexact HA
  iexact HB

/-- Both results whole. -/
theorem wp_outAll (c : Dev nD) (arg10 arg12 : Memref sig .tc .vmem S6x30x384 .f32) (arg14 arg15 : Memref sig .tc .vmem S2304x128 .f32)
    (A14 A15 : Vec F S2304x128 .f32) (X10 X12 : Vec F S6x30x384 .f32) (K : PUnit → Prog (TpuEff nD τ sig (Elt F) Λ₀ .tc) PUnit) (Q : PUnit → sProp 𝕄) :
    iprop(owns (c : Thread nD τ) arg14 fullShare A14 ∗ owns (c : Thread nD τ) arg10 fullShare X10 ∗ owns (c : Thread nD τ) arg15 fullShare A15 ∗ owns (c : Thread nD τ) arg12 fullShare X12)
      ⊢ iprop((iprop(owns (c : Thread nD τ) arg14 fullShare A14 ∗ owns (c : Thread nD τ) arg10 fullShare (outF A14) ∗ owns (c : Thread nD τ) arg15 fullShare A15
          ∗ owns (c : Thread nD τ) arg12 fullShare (outF A15)) -∗ wpk c (K ⟨⟩) Q)
        -∗ wpk c (outAll arg10 arg12 arg14 arg15 >>= K) Q) := by
  have e0 : ∀ (A : Vec F S2304x128 .f32) X, stO A (3 * 0) X = X := fun A X => funext fun x => if_neg (Nat.not_lt_zero _)
  have e6 : ∀ (A : Vec F S2304x128 .f32) X, stO A (3 * (5 + 1)) X = outF A := fun A X => funext fun x => if_pos (by
    have h0 : (x 0).val < 6 := (x 0).isLt
    have h2 : (x 2).val < 384 := (x 2).isLt
    omega)
  unfold outAll
  simp only [bind_assoc]
  rw [← e6 A14 X10, ← e6 A15 X12]
  iintro ⟨H14, H10, H15, H12⟩
  iintro HK
  iapply (wp_outRow c 0 _ arg10 arg12 arg14 arg15 A14 A15 X10 X12) $$ [H14 H10 H15 H12]
  · unfold heldO
    rw [e0 A14 X10, e0 A15 X12]
    isplitl [H14 H10]
    · isplitl [H14]; · iexact H14
      iexact H10
    isplitl [H15]; · iexact H15
    iexact H12
  iintro H
  iapply (wp_outRow c 1 _ arg10 arg12 arg14 arg15 A14 A15 X10 X12) $$ H
  iintro H
  iapply (wp_outRow c 2 _ arg10 arg12 arg14 arg15 A14 A15 X10 X12) $$ H
  iintro H
  iapply (wp_outRow c 3 _ arg10 arg12 arg14 arg15 A14 A15 X10 X12) $$ H
  iintro H
  iapply (wp_outRow c 4 _ arg10 arg12 arg14 arg15 A14 A15 X10 X12) $$ H
  iintro H
  iapply (wp_outRow c 5 _ arg10 arg12 arg14 arg15 A14 A15 X10 X12) $$ H
  unfold heldO
  iintro ⟨⟨H14, H10⟩, ⟨H15, H12⟩⟩
  iapply HK
  isplitl [H14]; · iexact H14
  isplitl [H10]; · iexact H10
  isplitl [H15]; · iexact H15
  iexact H12

end Cert.Kernel.Hand

end
-- ==== Proof.BitsPoint.lean ====
/- One grid point: the printed body, from buffers owned at known values to the values that it leaves. -/
module

public import proofs.«01_k».proof.Proof.BitsBody
public import proofs.«01_k».proof.Proof.BitsRows

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- A program that has ended. -/
theorem wp_end (c : Dev nD) (Q : PUnit → sProp 𝕄) : Q ⟨⟩ ⊢ wpk (F := F) c (pure ⟨⟩) Q := by
  show Q ⟨⟩ ⊢ wp frame (wpE (defs₀ (F := F)) Variants.none (c : Thread nD τ) none) Set.univ (.ret ⟨⟩) Q
  rw [wp_ret]
  iintro H
  imodintro
  iexact H

/-- The values that the tiles of the point `i` read, from the blocks of the eight operands there. -/
def mkIn (i : grid0.Coords) (E1 : Vec F S2304x2048 .i8) (E2 : Vec F S2304x128 .f32) (W3 : Vec F S1x2048x256 .i8) (W4 : Vec F S30x256 .f32)
    (G : Vec F S1x256 .f32) (W6 : Vec F S2304x128 .i32) (S7 M8 : Vec F S2304x128 .f32) : In F where
  a := lay i
  w := wB (fun y => W3 ((Rect.unit (s := S1x2048x256) ![0, 0, 0] S1x2048x256.size inb_S1x2048x256_S1x2048x256_0_0_0).emb y))
  ws := wsP (fun y => W4 ((Rect.unit (s := S30x256) (k0_off1 i) S1x256.size (k0_off1_inb i)).emb y))
  g := gP (fun y => G ((Rect.unit (s := S1x256) ![0, 0] S1x256.size inb_S1x256_S1x256_0_0).emb y))
  EB := sitofp .bf16 (E1 : IVec S2304x2048 8)
  E2 := E2
  W6 := W6
  S7 := S7
  M8 := M8

/-- The point after the codes' conversion. -/
def tail (i : grid0.Coords) (arg2 : Memref sig .tc .vmem S2304x128 .f32)
    (arg3 : Memref sig .tc .vmem S1x2048x256 .i8) (arg4 : Memref sig .tc .vmem S30x256 .f32) (arg5 : Memref sig .tc .vmem S1x256 .f32)
    (arg6 : Memref sig .tc .vmem S2304x128 .i32) (arg7 arg8 : Memref sig .tc .vmem S2304x128 .f32)
    (arg9 : Memref sig .tc .vmem S6x1x384x256 .f32) (arg10 : Memref sig .tc .vmem S6x30x384 .f32)
    (arg11 : Memref sig .tc .vmem S6x1x384x256 .i8) (harg11 : arg11.IsWhole) (arg12 : Memref sig .tc .vmem S6x30x384 .f32)
    (arg13 : Memref sig .tc .vmem S2304x2048 .bf16) (arg14 arg15 : Memref sig .tc .vmem S2304x128 .f32) :
    Prog (TpuEff nD τ sig (Elt F) Λ₀ .tc) PUnit := do
  let v3 : Vec F S1x2048x256 .i8 ← Prog.lift (.load arg3 (Rect.unit (s := S1x2048x256) ![0, 0, 0] S1x2048x256.size inb_S1x2048x256_S1x2048x256_0_0_0).toLoadRect (View.loadsAt_vmem h_S1x2048x256))
  let v7 : Vec F S1x256 .f32 ← Prog.lift (.load arg4 (Rect.unit (s := S30x256) (k0_off1 i) S1x256.size (k0_off1_inb i)).toLoadRect (View.loadsAt_vmem h_S1x256))
  let v10 : Vec F S1x256 .f32 ← Prog.lift (.load arg5 (Rect.unit (s := S1x256) ![0, 0] S1x256.size inb_S1x256_S1x256_0_0).toLoadRect (View.loadsAt_vmem h_S1x256))
  row 0 (by decide) (lay i) (wB v3) (wsP v7) (gP v10) arg2 arg6 arg7 arg8 arg9 arg11 harg11 arg13 arg14 arg15
  row 1 (by decide) (lay i) (wB v3) (wsP v7) (gP v10) arg2 arg6 arg7 arg8 arg9 arg11 harg11 arg13 arg14 arg15
  row 2 (by decide) (lay i) (wB v3) (wsP v7) (gP v10) arg2 arg6 arg7 arg8 arg9 arg11 harg11 arg13 arg14 arg15
  row 3 (by decide) (lay i) (wB v3) (wsP v7) (gP v10) arg2 arg6 arg7 arg8 arg9 arg11 harg11 arg13 arg14 arg15
  row 4 (by decide) (lay i) (wB v3) (wsP v7) (gP v10) arg2 arg6 arg7 arg8 arg9 arg11 harg11 arg13 arg14 arg15
  row 5 (by decide) (lay i) (wB v3) (wsP v7) (gP v10) arg2 arg6 arg7 arg8 arg9 arg11 harg11 arg13 arg14 arg15
  if h : k0_cond2 i = 1#1 then outAll arg10 arg12 arg14 arg15 else pure ⟨⟩
  pure ⟨⟩

section

variable (c : Dev nD) (i : grid0.Coords) (arg1 : Memref sig .tc .vmem S2304x2048 .i8) (arg2 : Memref sig .tc .vmem S2304x128 .f32)
    (arg3 : Memref sig .tc .vmem S1x2048x256 .i8) (arg4 : Memref sig .tc .vmem S30x256 .f32) (arg5 : Memref sig .tc .vmem S1x256 .f32)
    (arg6 : Memref sig .tc .vmem S2304x128 .i32) (arg7 arg8 : Memref sig .tc .vmem S2304x128 .f32)
    (arg9 : Memref sig .tc .vmem S6x1x384x256 .f32) (arg10 : Memref sig .tc .vmem S6x30x384 .f32)
    (arg11 : Memref sig .tc .vmem S6x1x384x256 .i8) (harg11 : arg11.IsWhole) (arg12 : Memref sig .tc .vmem S6x30x384 .f32)
    (arg13 : Memref sig .tc .vmem S2304x2048 .bf16) (harg13 : arg13.IsWhole) (arg14 arg15 : Memref sig .tc .vmem S2304x128 .f32)

theorem body_first (h : isFirst i = 1#1) :
    body (F := F) i arg1 arg2 arg3 arg4 arg5 arg6 arg7 arg8 arg9 arg10 arg11 harg11 arg12 arg13 harg13 arg14 arg15
      = (inAll arg1 arg13 harg13 >>= fun _ => tail i arg2 arg3 arg4 arg5 arg6 arg7 arg8 arg9 arg10 arg11 harg11 arg12 arg13 arg14 arg15) := by
  unfold body tail
  dsimp only
  rw [dif_pos h]

theorem body_later (h : ¬ isFirst i = 1#1) :
    body (F := F) i arg1 arg2 arg3 arg4 arg5 arg6 arg7 arg8 arg9 arg10 arg11 harg11 arg12 arg13 harg13 arg14 arg15
      = tail i arg2 arg3 arg4 arg5 arg6 arg7 arg8 arg9 arg10 arg11 harg11 arg12 arg13 arg14 arg15 := by
  unfold body tail
  dsimp only
  rw [dif_neg h]

variable (E1 : Vec F S2304x2048 .i8) (E2 : Vec F S2304x128 .f32) (W3 : Vec F S1x2048x256 .i8) (W4 : Vec F S30x256 .f32)
    (G : Vec F S1x256 .f32) (W6 : Vec F S2304x128 .i32) (S7 M8 : Vec F S2304x128 .f32)
    (X9 : Vec F S6x1x384x256 .f32) (X10 : Vec F S6x30x384 .f32) (X11 : Vec F S6x1x384x256 .i8) (X12 : Vec F S6x30x384 .f32)
    (X13 : Vec F S2304x2048 .bf16) (X14 X15 : Vec F S2304x128 .f32)

theorem st9_zero (I : In F) : I.st9 0 X9 = X9 := by funext x; unfold In.st9; rw [if_neg (by omega)]
theorem st11_zero (I : In F) : I.st11 0 X11 = X11 := by funext x; unfold In.st11; rw [if_neg (by omega)]
theorem st14_zero (I : In F) : I.st14 0 X14 = X14 := by funext x; unfold In.st14; rw [if_neg (by omega)]
theorem st15_zero (I : In F) : I.st15 0 X15 = X15 := by funext x; unfold In.st15; rw [if_neg (by omega)]
theorem st9_all (I : In F) : I.st9 36 X9 = I.P := by
  funext x; unfold In.st9
  have h0 : (x 0).val < 6 := (x 0).isLt
  have h2 : (x 2).val < 384 := (x 2).isLt
  rw [if_pos (by omega)]
theorem st11_all (I : In F) : I.st11 72 X11 = I.C := by
  funext x; unfold In.st11
  have h0 : (x 0).val < 6 := (x 0).isLt
  have h2 : (x 2).val < 384 := (x 2).isLt
  have h3 : (x 3).val < 256 := (x 3).isLt
  rw [if_pos (by omega)]

/-- The accumulator after the point: the layer's own lane at the tokens' root mean squares, the other lanes as they were. -/
def upRms (I : In F) (X : Vec F S2304x128 .f32) : Vec F S2304x128 .f32 := fun x => if I.own (x 1).val then I.RMS (x 0) else X x
/-- The accumulator after the point: the layer's own lane at the tokens' scales, the other lanes as they were. -/
def upSc (I : In F) (X : Vec F S2304x128 .f32) : Vec F S2304x128 .f32 := fun x => if I.own (x 1).val then I.SC (x 0) else X x

theorem st14_all (I : In F) : I.st14 36 X14 = upRms I X14 := by
  funext x; unfold In.st14 upRms
  have h0 : (x 0).val < 2304 := (x 0).isLt
  simp only [show (x 0).val / 64 < 36 by omega, true_and]
theorem st15_all (I : In F) : I.st15 36 X15 = upSc I X15 := by
  funext x; unfold In.st15 upSc
  have h0 : (x 0).val < 2304 := (x 0).isLt
  simp only [show (x 0).val / 64 < 36 by omega, true_and]

/-- Everything that a point owns, at given contents of the buffers that it writes. -/
def all (c : Dev nD) (Y9 : Vec F S6x1x384x256 .f32) (Y10 : Vec F S6x30x384 .f32) (Y11 : Vec F S6x1x384x256 .i8) (Y12 : Vec F S6x30x384 .f32)
    (Y13 : Vec F S2304x2048 .bf16) (Y14 Y15 : Vec F S2304x128 .f32) : sProp 𝕄 :=
  iprop(owns (c : Thread nD τ) arg1 fullShare E1 ∗ owns (c : Thread nD τ) arg2 fullShare E2 ∗ owns (c : Thread nD τ) arg3 fullShare W3
    ∗ owns (c : Thread nD τ) arg4 fullShare W4 ∗ owns (c : Thread nD τ) arg5 fullShare G ∗ owns (c : Thread nD τ) arg6 fullShare W6
    ∗ owns (c : Thread nD τ) arg7 fullShare S7 ∗ owns (c : Thread nD τ) arg8 fullShare M8 ∗ owns (c : Thread nD τ) arg9 fullShare Y9
    ∗ owns (c : Thread nD τ) arg10 fullShare Y10 ∗ owns (c : Thread nD τ) arg11 fullShare Y11 ∗ owns (c : Thread nD τ) arg12 fullShare Y12
    ∗ owns (c : Thread nD τ) arg13 fullShare Y13 ∗ owns (c : Thread nD τ) arg14 fullShare Y14 ∗ owns (c : Thread nD τ) arg15 fullShare Y15)

set_option maxHeartbeats 4000000 in
/-- The point after the codes' conversion: the projection, the codes, the lanes of the two accumulators, and at the last point the two
    transposed results. -/
theorem wp_tail (I : In F) (hI : I = mkIn i E1 E2 W3 W4 G W6 S7 M8) (Q : PUnit → sProp 𝕄) :
    all arg1 arg2 arg3 arg4 arg5 arg6 arg7 arg8 arg9 arg10 arg11 arg12 arg13 arg14 arg15 E1 E2 W3 W4 G W6 S7 M8 c X9 X10 X11 X12
        (sitofp .bf16 (E1 : IVec S2304x2048 8)) X14 X15
      ⊢ iprop((all arg1 arg2 arg3 arg4 arg5 arg6 arg7 arg8 arg9 arg10 arg11 arg12 arg13 arg14 arg15 E1 E2 W3 W4 G W6 S7 M8 c
            I.P (if k0_cond2 i = 1#1 then outF (upRms I X14) else X10) I.C (if k0_cond2 i = 1#1 then outF (upSc I X15) else X12)
            (sitofp .bf16 (E1 : IVec S2304x2048 8)) (upRms I X14) (upSc I X15) -∗ Q ⟨⟩)
        -∗ wpk c (tail i arg2 arg3 arg4 arg5 arg6 arg7 arg8 arg9 arg10 arg11 harg11 arg12 arg13 arg14 arg15) Q) := by
  unfold all tail
  simp only [Prog.bind_lift, Prog.bind_op]
  iintro ⟨H1, H2, H3, H4, H5, H6, H7, H8, H9, H10, H11, H12, H13, H14, H15⟩
  iintro HK
  iapply (wp_ld c arg3 _ _ W3) $$ H3
  iintro H3
  iapply (wp_ld c arg4 _ _ W4) $$ H4
  iintro H4
  iapply (wp_ld c arg5 _ _ G) $$ H5
  iintro H5
  have e0 : held c I arg2 arg6 arg7 arg8 arg9 arg11 arg14 arg15 X9 X11 X14 X15 (6 * 0)
      = iprop(owns (c : Thread nD τ) arg2 fullShare E2 ∗ owns (c : Thread nD τ) arg6 fullShare W6 ∗ owns (c : Thread nD τ) arg7 fullShare S7
        ∗ owns (c : Thread nD τ) arg8 fullShare M8 ∗ owns (c : Thread nD τ) arg9 fullShare X9 ∗ owns (c : Thread nD τ) arg11 fullShare X11
        ∗ owns (c : Thread nD τ) arg14 fullShare X14 ∗ owns (c : Thread nD τ) arg15 fullShare X15) := by
    subst hI; unfold held
    rw [show 6 * 0 = 0 from rfl, st9_zero, st11_zero, st14_zero, st15_zero]; rfl
  have e6 : held c I arg2 arg6 arg7 arg8 arg9 arg11 arg14 arg15 X9 X11 X14 X15 (6 * (5 + 1))
      = iprop(owns (c : Thread nD τ) arg2 fullShare E2 ∗ owns (c : Thread nD τ) arg6 fullShare W6 ∗ owns (c : Thread nD τ) arg7 fullShare S7
        ∗ owns (c : Thread nD τ) arg8 fullShare M8 ∗ owns (c : Thread nD τ) arg9 fullShare I.P ∗ owns (c : Thread nD τ) arg11 fullShare I.C
        ∗ owns (c : Thread nD τ) arg14 fullShare (upRms I X14) ∗ owns (c : Thread nD τ) arg15 fullShare (upSc I X15)) := by
    subst hI; unfold held
    rw [show 6 * (5 + 1) = 36 from rfl, st9_all, st11_all, st14_all, st15_all]; rfl
  have eb : (I.EB : Vec F S2304x2048 .bf16) = sitofp .bf16 (E1 : IVec S2304x2048 8) := by subst hI; rfl
  subst hI
  iapply (wp_row c (mkIn i E1 E2 W3 W4 G W6 S7 M8) 0 _ arg2 arg6 arg7 arg8 arg9 arg11 harg11 arg13 arg14 arg15 X9 X11 X14 X15) $$ [H2 H6 H7 H8 H9 H11 H13 H14 H15]
  · rw [e0, eb]
    isplitl [H13]; · iexact H13
    isplitl [H2]; · iexact H2
    isplitl [H6]; · iexact H6
    isplitl [H7]; · iexact H7
    isplitl [H8]; · iexact H8
    isplitl [H9]; · iexact H9
    isplitl [H11]; · iexact H11
    isplitl [H14]; · iexact H14
    iexact H15
  iintro H
  iapply (wp_row c (mkIn i E1 E2 W3 W4 G W6 S7 M8) 1 _ arg2 arg6 arg7 arg8 arg9 arg11 harg11 arg13 arg14 arg15 X9 X11 X14 X15) $$ H
  iintro H
  iapply (wp_row c (mkIn i E1 E2 W3 W4 G W6 S7 M8) 2 _ arg2 arg6 arg7 arg8 arg9 arg11 harg11 arg13 arg14 arg15 X9 X11 X14 X15) $$ H
  iintro H
  iapply (wp_row c (mkIn i E1 E2 W3 W4 G W6 S7 M8) 3 _ arg2 arg6 arg7 arg8 arg9 arg11 harg11 arg13 arg14 arg15 X9 X11 X14 X15) $$ H
  iintro H
  iapply (wp_row c (mkIn i E1 E2 W3 W4 G W6 S7 M8) 4 _ arg2 arg6 arg7 arg8 arg9 arg11 harg11 arg13 arg14 arg15 X9 X11 X14 X15) $$ H
  iintro H
  iapply (wp_row c (mkIn i E1 E2 W3 W4 G W6 S7 M8) 5 _ arg2 arg6 arg7 arg8 arg9 arg11 harg11 arg13 arg14 arg15 X9 X11 X14 X15) $$ H
  rw [e6, eb]
  iintro ⟨H13, H2, H6, H7, H8, H9, H11, H14, H15⟩
  by_cases h : k0_cond2 i = 1#1
  · simp only [dif_pos h, if_pos h]
    iapply (wp_outAll c arg10 arg12 arg14 arg15 _ _ X10 X12) $$ [H14 H10 H15 H12]
    · isplitl [H14]; · iexact H14
      isplitl [H10]; · iexact H10
      isplitl [H15]; · iexact H15
      iexact H12
    iintro ⟨H14, H10, H15, H12⟩
    iapply (wp_end c Q)
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · simp only [dif_neg h, if_neg h]
    iapply (wp_end c Q)
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The whole point. At a later point the codes' buffer already holds the converted codes. -/
theorem wp_body (hX : isFirst i = 1#1 ∨ X13 = sitofp .bf16 (E1 : IVec S2304x2048 8)) (I : In F) (hI : I = mkIn i E1 E2 W3 W4 G W6 S7 M8) (Q : PUnit → sProp 𝕄) :
    all arg1 arg2 arg3 arg4 arg5 arg6 arg7 arg8 arg9 arg10 arg11 arg12 arg13 arg14 arg15 E1 E2 W3 W4 G W6 S7 M8 c X9 X10 X11 X12 X13 X14 X15
      ⊢ iprop((all arg1 arg2 arg3 arg4 arg5 arg6 arg7 arg8 arg9 arg10 arg11 arg12 arg13 arg14 arg15 E1 E2 W3 W4 G W6 S7 M8 c
            I.P (if k0_cond2 i = 1#1 then outF (upRms I X14) else X10) I.C (if k0_cond2 i = 1#1 then outF (upSc I X15) else X12)
            (sitofp .bf16 (E1 : IVec S2304x2048 8)) (upRms I X14) (upSc I X15) -∗ Q ⟨⟩)
        -∗ wpk c (body i arg1 arg2 arg3 arg4 arg5 arg6 arg7 arg8 arg9 arg10 arg11 harg11 arg12 arg13 harg13 arg14 arg15) Q) := by
  by_cases h : isFirst i = 1#1
  · rw [body_first _ _ _ _ _ _ _ _ _ _ _ _ _ _ _ _ _ _ h]
    iintro H
    iintro HK
    unfold all
    icases H with ⟨H1, H2, H3, H4, H5, H6, H7, H8, H9, H10, H11, H12, H13, H14, H15⟩
    iapply (wp_inAll c arg1 arg13 harg13 E1 X13) $$ [H1 H13]
    · isplitl [H1]; · iexact H1
      iexact H13
    iintro ⟨H1, H13⟩
    iapply (wp_tail c i arg1 arg2 arg3 arg4 arg5 arg6 arg7 arg8 arg9 arg10 arg11 harg11 arg12 arg13 arg14 arg15 E1 E2 W3 W4 G W6 S7 M8 X9 X10 X11 X12 X14 X15 I hI Q)
      $$ [H1 H2 H3 H4 H5 H6 H7 H8 H9 H10 H11 H12 H13 H14 H15]
    · unfold all
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    unfold all
    iexact HK
  · rw [body_later _ _ _ _ _ _ _ _ _ _ _ _ _ _ _ _ _ _ h]
    rcases hX with hX | hX
    · exact absurd hX h
    rw [hX]
    exact wp_tail c i arg1 arg2 arg3 arg4 arg5 arg6 arg7 arg8 arg9 arg10 arg11 harg11 arg12 arg13 arg14 arg15 E1 E2 W3 W4 G W6 S7 M8 X9 X10 X11 X12 X14 X15 I hI Q

end

end Cert.Kernel.Hand

end
-- ==== Proof.BitsFrame.lean ====
/- The pipelined call over its thirty points: what each point leaves, what the three scratch buffers carry from point to point, and the
   run of the whole program. -/
module

public import proofs.«01_k».proof.Proof.BitsPoint
public import proofs.«01_k».proof.Proof.Gen.Kernel.Frame
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem layer_val (t : Fin cfg0.N) : (grid0.coords t 0).val = t.val := by
  have ht : t.val < 30 := Nat.lt_of_lt_of_eq t.isLt N_0
  have e0 : (grid0.coords t 0).val = t.val / 1 % 30 := Pipeline.Grid.coords_val t 0 (by decide) rfl
  omega

theorem isFirst_iff (t : Fin cfg0.N) : isFirst (grid0.coords t) = 1#1 ↔ t.val = 0 := by
  have ht : t.val < 30 := Nat.lt_of_lt_of_eq t.isLt N_0
  simp only [isFirst, lay, layer_val]
  word_cmp

theorem isLast_iff (t : Fin cfg0.N) : k0_cond2 (grid0.coords t) = 1#1 ↔ t.val = 29 := by
  have ht : t.val < 30 := Nat.lt_of_lt_of_eq t.isLt N_0
  simp only [k0_cond2, layer_val]
  word_cmp

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_10 : ∀ t : Fin cfg0.N, cfg0.idle 10 (grid0.coords t) = false := fun _ => rfl

theorem idle_9 (t : Fin cfg0.N) (h : ¬ t.val = 29) : cfg0.idle 9 (grid0.coords t) = true := by
  show (!(k0_cond2 (grid0.coords t) == 1#1)) = true
  rw [beq_eq_false_iff_ne.mpr (fun e => h ((isLast_iff t).mp e))]; rfl
theorem idle_11 (t : Fin cfg0.N) (h : ¬ t.val = 29) : cfg0.idle 11 (grid0.coords t) = true := by
  show (!(k0_cond2 (grid0.coords t) == 1#1)) = true
  rw [beq_eq_false_iff_ne.mpr (fun e => h ((isLast_iff t).mp e))]; rfl
theorem live_9 (t : Fin cfg0.N) (h : t.val = 29) : cfg0.idle 9 (grid0.coords t) = false := by
  show (!(k0_cond2 (grid0.coords t) == 1#1)) = false
  rw [(isLast_iff t).mpr h]; rfl
theorem live_11 (t : Fin cfg0.N) (h : t.val = 29) : cfg0.idle 11 (grid0.coords t) = false := by
  show (!(k0_cond2 (grid0.coords t) == 1#1)) = false
  rw [(isLast_iff t).mpr h]; rfl
theorem noflush_9 (t : Fin cfg0.N) (h : ¬ t.val = 29) : (cfg0.win 9).flush t = false := by
  have ht : t.val < 30 := Nat.lt_of_lt_of_eq t.isLt N_0
  have := flush0_9 t
  cases e : (cfg0.win 9).flush t
  · rfl
  · exact absurd (this.mp e) (by omega)
theorem noflush_11 (t : Fin cfg0.N) (h : ¬ t.val = 29) : (cfg0.win 11).flush t = false := by
  have ht : t.val < 30 := Nat.lt_of_lt_of_eq t.isLt N_0
  have := flush0_11 t
  cases e : (cfg0.win 11).flush t
  · rfl
  · exact absurd (this.mp e) (by omega)

/-! ## What the points compute -/

/-- The values that the tiles of point `t` read. -/
def Iat (c : Dev nD) (t : Fin cfg0.N) : In F :=
  mkIn (grid0.coords t) (iblk m c 0 t) (iblk m c 1 t) (iblk m c 2 t) (iblk m c 3 t) (iblk m c 4 t) (iblk m c 5 t) (iblk m c 6 t) (iblk m c 7 t)

/-- The point of a layer. -/
def pt (l : ℕ) (h : l < 30) : Fin cfg0.N := ⟨l, Nat.lt_of_lt_of_eq h N_0.symm⟩

/-- The root mean squares of all layers. -/
def segV (c : Dev nD) : Vec F S6x30x384 .f32 := fun x =>
  (Iat m c (pt (x 1).val (x 1).isLt)).RMS ⟨384 * (x 0).val + (x 2).val, by have h0 : (x 0).val < 6 := (x 0).isLt; have h2 : (x 2).val < 384 := (x 2).isLt; omega⟩

/-- The quantiser's scales of all layers. -/
def csV (c : Dev nD) : Vec F S6x30x384 .f32 := fun x =>
  (Iat m c (pt (x 1).val (x 1).isLt)).SC ⟨384 * (x 0).val + (x 2).val, by have h0 : (x 0).val < 6 := (x 0).isLt; have h2 : (x 2).val < 384 := (x 2).isLt; omega⟩

/-- The lanes of the first `n` layers hold those layers' root mean squares. -/
def accR (c : Dev nD) (n : ℕ) (d : Vec F S2304x128 .f32) : Prop :=
  ∀ (x : S2304x128.Idx) (h : (x 1).val < 30), (x 1).val < n → d x = (Iat m c (pt (x 1).val h)).RMS (x 0)

/-- The lanes of the first `n` layers hold those layers' scales. -/
def accS (c : Dev nD) (n : ℕ) (d : Vec F S2304x128 .f32) : Prop :=
  ∀ (x : S2304x128.Idx) (h : (x 1).val < 30), (x 1).val < n → d x = (Iat m c (pt (x 1).val h)).SC (x 0)

theorem own_iff (c : Dev nD) (t : Fin cfg0.N) (l : ℕ) (hl : l < 128) : (Iat m c t).own l ↔ l = t.val := by
  have ht : t.val < 30 := Nat.lt_of_lt_of_eq t.isLt N_0
  show BitVec.ofNat 32 l = lay (grid0.coords t) ↔ _
  unfold lay
  rw [layer_val]
  constructor
  · intro h
    have := congrArg BitVec.toNat h
    simp only [BitVec.toNat_ofNat] at this
    omega
  · intro h; rw [h]

theorem accR_step (c : Dev nD) (t : Fin cfg0.N) (d : Vec F S2304x128 .f32) (h : accR m c t.val d) : accR m c (t.val + 1) (upRms (Iat m c t) d) := by
  intro x hx hl
  unfold upRms
  by_cases e : (x 1).val = t.val
  · rw [if_pos ((own_iff m c t _ (x 1).isLt).mpr e)]
    rw [show pt (x 1).val hx = t from Fin.ext e]
  · rw [if_neg (fun h => e ((own_iff m c t _ (x 1).isLt).mp h))]
    exact h x hx (by omega)

theorem accS_step (c : Dev nD) (t : Fin cfg0.N) (d : Vec F S2304x128 .f32) (h : accS m c t.val d) : accS m c (t.val + 1) (upSc (Iat m c t) d) := by
  intro x hx hl
  unfold upSc
  by_cases e : (x 1).val = t.val
  · rw [if_pos ((own_iff m c t _ (x 1).isLt).mpr e)]
    rw [show pt (x 1).val hx = t from Fin.ext e]
  · rw [if_neg (fun h => e ((own_iff m c t _ (x 1).isLt).mp h))]
    exact h x hx (by omega)

theorem outF_R (c : Dev nD) (d : Vec F S2304x128 .f32) (h : accR m c 30 d) : outF d = segV m c := by
  funext x; unfold outF segV
  exact h _ (x 1).isLt (x 1).isLt

theorem outF_S (c : Dev nD) (d : Vec F S2304x128 .f32) (h : accS m c 30 d) : outF d = csV m c := by
  funext x; unfold outF csV
  exact h _ (x 1).isLt (x 1).isLt

/-! ## The staging buffers and the scratch -/

abbrev ms0 (t : Fin cfg0.N) : Memref sig .tc .vmem S2304x2048 .i8 := win0_0.stage (cfg0.slots t 0)
abbrev ms1 (t : Fin cfg0.N) : Memref sig .tc .vmem S2304x128 .f32 := win0_1.stage (cfg0.slots t 1)
abbrev ms2 (t : Fin cfg0.N) : Memref sig .tc .vmem S1x2048x256 .i8 := win0_2.stage (cfg0.slots t 2)
abbrev ms3 (t : Fin cfg0.N) : Memref sig .tc .vmem S30x256 .f32 := win0_3.stage (cfg0.slots t 3)
abbrev ms4 (t : Fin cfg0.N) : Memref sig .tc .vmem S1x256 .f32 := win0_4.stage (cfg0.slots t 4)
abbrev ms5 (t : Fin cfg0.N) : Memref sig .tc .vmem S2304x128 .i32 := win0_5.stage (cfg0.slots t 5)
abbrev ms6 (t : Fin cfg0.N) : Memref sig .tc .vmem S2304x128 .f32 := win0_6.stage (cfg0.slots t 6)
abbrev ms7 (t : Fin cfg0.N) : Memref sig .tc .vmem S2304x128 .f32 := win0_7.stage (cfg0.slots t 7)
abbrev ms8 (t : Fin cfg0.N) : Memref sig .tc .vmem S6x1x384x256 .f32 := win0_8.stage (cfg0.slots t 8)
abbrev ms9 (t : Fin cfg0.N) : Memref sig .tc .vmem S6x30x384 .f32 := win0_9.stage (cfg0.slots t 9)
abbrev ms10 (t : Fin cfg0.N) : Memref sig .tc .vmem S6x1x384x256 .i8 := win0_10.stage (cfg0.slots t 10)
abbrev ms11 (t : Fin cfg0.N) : Memref sig .tc .vmem S6x30x384 .f32 := win0_11.stage (cfg0.slots t 11)
abbrev sc0 : Memref sig .tc .vmem S2304x2048 .bf16 := Memref.whole cc0_scratch0
abbrev sc1 : Memref sig .tc .vmem S2304x128 .f32 := Memref.whole cc0_scratch1
abbrev sc2 : Memref sig .tc .vmem S2304x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The converted codes, the same at every point. -/
def EBat (c : Dev nD) (t : Fin cfg0.N) : Vec F S2304x2048 .bf16 := sitofp .bf16 ((iblk m c 0 t : Vec F S2304x2048 .i8) : IVec S2304x2048 8)

theorem EBat_eq (c : Dev nD) (t t' : Fin cfg0.N) : EBat m c t = EBat m c t' := rfl

/-- What the scratch buffers hold after `n` points: anything before the first; then the converted codes, and the done layers' lanes. -/
def PhiN (c : Dev nD) : (n : ℕ) → n ≤ cfg0.N → sProp 𝕄
  | 0, _ => Pipeline.ΦA spec0 c
  | n + 1, _ => iprop(iprop(owns (c : Thread nD τ) sc0 fullShare (EBat m c (pt 0 (by decide)))
      ∗ (∃ d, iprop(⌜accR m c (n + 1) d⌝ ∗ owns (c : Thread nD τ) sc1 fullShare d)) ∗ (∃ d, iprop(⌜accS m c (n + 1) d⌝ ∗ owns (c : Thread nD τ) sc2 fullShare d))) ∗ (∃ r, prngReg c r))

theorem PhiN_zero (c : Dev nD) (n : ℕ) (h : n ≤ cfg0.N) (hz : n = 0) : PhiN m c n h = Pipeline.ΦA spec0 c := by subst hz; rfl
theorem PhiN_pos (c : Dev nD) (n : ℕ) (h : n ≤ cfg0.N) (hz : n ≠ 0) :
    PhiN m c n h = iprop(iprop(owns (c : Thread nD τ) sc0 fullShare (EBat m c (pt 0 (by decide)))
      ∗ (∃ d, iprop(⌜accR m c n d⌝ ∗ owns (c : Thread nD τ) sc1 fullShare d)) ∗ (∃ d, iprop(⌜accS m c n d⌝ ∗ owns (c : Thread nD τ) sc2 fullShare d))) ∗ (∃ r, prngReg c r)) := by
  cases n with
  | zero => exact absurd rfl hz
  | succ n => rfl

/-- The call's proof data: the inputs stay, the projection's and the codes' blocks are the point's, the two small results the layers'
    root mean squares and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (Iat m c t).P
    | ⟨9, _⟩ => segV m c
    | ⟨10, _⟩ => (Iat m c t).C
    | ⟨11, _⟩ => csV m c
  Φ t := PhiN m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiN m c t.val (Nat.le_of_lt t.isLt) := by
  dsimp only [dats]; exact Pipeline.Dat.Φ_castSucc (PhiN m c) t
theorem Phi_succ (c : Dev nD) (t : Fin cfg0.N) : (dats m 0 c).Φ t.succ = PhiN m c (t.val + 1) t.isLt := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (Iat m c t).P := by dsimp only [dats]
theorem after_9 (c : Dev nD) (t : Fin cfg0.N) : (dats m 0 c).after 9 t = segV m c := by dsimp only [dats]
theorem after_10 (c : Dev nD) (t : Fin cfg0.N) : (dats m 0 c).after 10 t = (Iat m c t).C := by dsimp only [dats]
theorem after_11 (c : Dev nD) (t : Fin cfg0.N) : (dats m 0 c).after 11 t = csV m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body at a point -/

/-- What a point is given, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The point's windows, its scratch named, run through the body. -/
def Pt (c : Dev nD) (t : Fin cfg0.N) := all (F := F) (ms0 t) (ms1 t) (ms2 t) (ms3 t) (ms4 t) (ms5 t) (ms6 t) (ms7 t) (ms8 t) (ms9 t) (ms10 t) (ms11 t) sc0 sc1 sc2 (iblk m c 0 t) (iblk m c 1 t) (iblk m c 2 t) (iblk m c 3 t) (iblk m c 4 t) (iblk m c 5 t) (iblk m c 6 t) (iblk m c 7 t) c

theorem wp_point (c : Dev nD) (t : Fin cfg0.N) (X9 : Vec F S6x1x384x256 .f32) (X10 : Vec F S6x30x384 .f32) (X11 : Vec F S6x1x384x256 .i8) (X12 : Vec F S6x30x384 .f32)
    (X13 : Vec F S2304x2048 .bf16) (X14 X15 : Vec F S2304x128 .f32) (hX : t.val = 0 ∨ X13 = EBat m c t) (Q : PUnit → sProp 𝕄) :
    Pt m c t X9 X10 X11 X12 X13 X14 X15
      ⊢ iprop((Pt m c t (Iat m c t).P (if k0_cond2 (grid0.coords t) = 1#1 then outF (upRms (Iat m c t) X14) else X10) (Iat m c t).C
            (if k0_cond2 (grid0.coords t) = 1#1 then outF (upSc (Iat m c t) X15) else X12) (EBat m c t) (upRms (Iat m c t) X14) (upSc (Iat m c t) X15) -∗ Q ⟨⟩)
        -∗ wpk c (bodyAt0 t) Q) := by
  unfold Pt bodyAt0
  rw [body_eq]
  exact wp_body c (grid0.coords t) (ms0 t) (ms1 t) (ms2 t) (ms3 t) (ms4 t) (ms5 t) (ms6 t) (ms7 t) (ms8 t) (ms9 t) (ms10 t) (hstage0_10 ((cfg0.slots t 10).cast nbuf0_10)) (ms11 t) sc0 (Memref.isWhole_whole _) sc1 sc2 _ _ _ _ _ _ _ _ X9 X10 X11 X12 X13 X14 X15
    (hX.imp_left (isFirst_iff t).mpr) (Iat m c t) rfl Q

/-! ## The invariant -/

set_option maxHeartbeats 8000000 in
/-- A point, its scratch buffers at contents that hold the lanes of the points before it. -/
theorem sound_core (c : Dev nD) (t : Fin cfg0.N) (X13 : Vec F S2304x2048 .bf16) (X14 X15 : Vec F S2304x128 .f32) (hX : t.val = 0 ∨ X13 = EBat m c t)
    (hR : accR m c t.val X14) (hS : accS m c t.val X15) :
    iprop(iprop(iprop(owns (c : Thread nD τ) sc0 fullShare X13 ∗ owns (c : Thread nD τ) sc1 fullShare X14 ∗ owns (c : Thread nD τ) sc2 fullShare X15) ∗ (∃ r, prngReg c r))
        ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))
      ⊢ wp frame (wpE (defs₀ (F := F)) Variants.none (c : Thread nD τ) none) Set.univ (bodyAt0 t) (fun _ => bodyPost m c t) := by
  unfold bodyPost
  rw [show (dats m 0 c).owesAt () t.succ = (dats m 0 c).owesAt () t.castSucc from rfl, Phi_succ, PhiN_pos _ _ _ _ (Nat.succ_ne_zero _)]
  rw [show (dats m 0 c).leavesExact 0 t = owns (c : Thread nD τ) (ms0 t) fullShare ((dats m 0 c).after 0 t) from by unfold Dat.leavesExact; rw [live_0 t], after_0]
  rw [show (dats m 0 c).leavesExact 1 t = owns (c : Thread nD τ) (ms1 t) fullShare ((dats m 0 c).after 1 t) from by unfold Dat.leavesExact; rw [live_1 t], after_1]
  rw [show (dats m 0 c).leavesExact 2 t = owns (c : Thread nD τ) (ms2 t) fullShare ((dats m 0 c).after 2 t) from by unfold Dat.leavesExact; rw [live_2 t], after_2]
  rw [show (dats m 0 c).leavesExact 3 t = owns (c : Thread nD τ) (ms3 t) fullShare ((dats m 0 c).after 3 t) from by unfold Dat.leavesExact; rw [live_3 t], after_3]
  rw [show (dats m 0 c).leavesExact 4 t = owns (c : Thread nD τ) (ms4 t) fullShare ((dats m 0 c).after 4 t) from by unfold Dat.leavesExact; rw [live_4 t], after_4]
  rw [show (dats m 0 c).leavesExact 5 t = owns (c : Thread nD τ) (ms5 t) fullShare ((dats m 0 c).after 5 t) from by unfold Dat.leavesExact; rw [live_5 t], after_5]
  rw [show (dats m 0 c).leavesExact 6 t = owns (c : Thread nD τ) (ms6 t) fullShare ((dats m 0 c).after 6 t) from by unfold Dat.leavesExact; rw [live_6 t], after_6]
  rw [show (dats m 0 c).leavesExact 7 t = owns (c : Thread nD τ) (ms7 t) fullShare ((dats m 0 c).after 7 t) from by unfold Dat.leavesExact; rw [live_7 t], after_7]
  rw [show (dats m 0 c).leavesExact 8 t = owns (c : Thread nD τ) (ms8 t) fullShare ((dats m 0 c).after 8 t) from by unfold Dat.leavesExact; rw [live_8 t], after_8]
  rw [show (dats m 0 c).leavesExact 10 t = owns (c : Thread nD τ) (ms10 t) fullShare ((dats m 0 c).after 10 t) from by unfold Dat.leavesExact; rw [live_10 t], after_10]
  simp only [before_0, before_1, before_2, before_3, before_4, before_5, before_6, before_7]
  iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_point m c t _ _ _ _ X13 X14 X15 hX _) $$ [H0 H1 H2 H3 H4 H5 H6 H7 H8 H9 H10 H11 HA HB HC]
  · unfold Pt all
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HA]; · iexact HA
    isplitl [HB]; · iexact HB
    iexact HC
  unfold Pt all
  iintro ⟨H0, H1, H2, H3, H4, H5, H6, H7, H8, H9, H10, H11, HA, HB, HC⟩
  isplitl [HA HB HC Hg]
  · isplitl [HA HB HC]
    · isplitl [HA]; · iexact HA
      isplitl [HB]
      · iexists (upRms (Iat m c t) X14)
        isplitr; · ipureintro; exact accR_step m c t X14 hR
        iexact HB
      iexists (upSc (Iat m c t) X15)
      isplitr; · ipureintro; exact accS_step m c t X15 hS
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h : t.val = 29
  · rw [show (dats m 0 c).leavesExact 9 t = owns (c : Thread nD τ) (ms9 t) fullShare ((dats m 0 c).after 9 t) from by unfold Dat.leavesExact; rw [live_9 t h], after_9]
    rw [show (dats m 0 c).leavesExact 11 t = owns (c : Thread nD τ) (ms11 t) fullShare ((dats m 0 c).after 11 t) from by unfold Dat.leavesExact; rw [live_11 t h], after_11]
    rw [if_pos ((isLast_iff t).mpr h), if_pos ((isLast_iff t).mpr h)]
    rw [outF_R m c _ (by have := accR_step m c t X14 hR; rw [h] at this; exact this), outF_S m c _ (by have := accS_step m c t X15 hS; rw [h] at this; exact this)]
    isplitl [H9]; · iexact H9
    isplitl [H10]; · iexact H10
    iexact H11
  · rw [Dat.leavesExact_idle (dats m 0 c) 9 t (idle_9 t h) (noflush_9 t h), Dat.leavesExact_idle (dats m 0 c) 11 t (idle_11 t h) (noflush_11 t h)]
    rw [if_neg (fun e => h ((isLast_iff t).mp e)), if_neg (fun e => h ((isLast_iff t).mp e))]
    isplitl [H9]; · iexists d9; iexact H9
    isplitl [H10]; · iexact H10
    iexists d11; iexact H11

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre
  rw [Phi_castSucc]
  by_cases hz : t.val = 0
  · rw [PhiN_zero m c _ _ hz, PhiA_eq]
    iintro ⟨⟨⟨⟨%X13, HA⟩, ⟨%X14, HB⟩, ⟨%X15, HC⟩⟩, Hg⟩, Ho, H⟩
    iapply (sound_core m c t X13 X14 X15 (Or.inl hz) (fun x _ hl => absurd hl (by omega)) (fun x _ hl => absurd hl (by omega)))
    isplitl [HA HB HC Hg]
    · isplitl [HA HB HC]
      · isplitl [HA]; · iexact HA
        isplitl [HB]; · iexact HB
        iexact HC
      iexact Hg
    isplitl [Ho]; · iexact Ho
    iexact H
  · rw [PhiN_pos m c _ _ hz]
    iintro ⟨⟨⟨HA, ⟨%X14, %hR, HB⟩, ⟨%X15, %hS, HC⟩⟩, Hg⟩, Ho, H⟩
    iapply (sound_core m c t (EBat m c (pt 0 (by decide))) X14 X15 (Or.inr (EBat_eq m c _ _)) hR hS)
    isplitl [HA HB HC Hg]
    · isplitl [HA HB HC]
      · isplitl [HA]; · iexact HA
        isplitl [HB]; · iexact HB
        iexact HC
      iexact Hg
    isplitl [Ho]; · iexact Ho
    iexact H

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact Idealize.ShloMosaic.triple_restated (sound_body m c t) rfl .rfl fun _ => .rfl

theorem hin (c : Dev nD) : Pipeline.ΦA spec0 c ⊢ (dats m 0 c).Φ 0 := by
  rw [show (dats m 0 c).Φ 0 = PhiN m c 0 (Nat.zero_le _) from rfl, PhiN_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiN m c (Fin.last cfg0.N).val (Nat.le_of_lt_succ (Fin.last cfg0.N).isLt) from rfl,
    PhiN_pos m c _ _ (by rw [Fin.val_last]; have : cfg0.N = 30 := N_0; omega), PhiA_eq]
  iintro ⟨⟨HA, ⟨%X14, %hR, HB⟩, ⟨%X15, %hS, HC⟩⟩, Hg⟩
  isplitl [HA HB HC]
  · isplitl [HA]; · iexists _; iexact HA
    isplitl [HB]; · iexists _; iexact HB
    iexists _; iexact HC
  iexact Hg

/-! ## The run and the frame -/

set_option backward.isDefEq.respectTransparency.types false in
/-- The run: it ends, the arrays are at the proof data's, and every semaphore counter is at zero. -/
theorem run_all : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_post : θ_run defs (onTc (τ := τ) (main (F := F))) (s₀ m ρ) (Pipeline.FramePost cfgs (dats m) 0 (V m)) :=
  (θ_run defs _ _).mono (fun _ h => h.1) (run_all m ρ)

/-- The frame: the argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ)) ((θ_run defs _ _).mono (fun _ h => h.2) (run_all m ρ))

end Cert.Kernel.Hand

end
-- ==== Proof.Ops.lean ====
/- The kernel's body written tile by tile. The printed body unrolls 6 batch rows of 6 tiles of 64 tokens each and 18 final
   transpositions; here one tile is one program, stated for a row `b` and a tile number `k`, and the body is the sequence of them.
   The functions on values that a tile applies are named first. `body_eq` says that the printed body is this one. -/
module

public import proofs.«01_k».proof.Proof.Gen.KernelIdeal

@[expose] public section

set_option maxRecDepth 65536
set_option synthInstance.maxSize 4096

noncomputable section

namespace Cert.KernelIdeal.Hand

open Idealize.ShloMosaic Idealize.SL.Sem
open Cert.KernelIdeal Cert.KernelIdeal.Gen

variable {F : FTy → Type} [FloatOps F] [Named F]

/-! ## The values of one grid point -/

/-- The layer's weights as bf16. -/
def wB (v3 : Vec F S1x2048x256 .i8) : FVec F S2048x256 .bf16 :=
  sitofp .bf16 (shapeCast (α := BitVec 8) S2048x256 v3 shapeCasts_S1x2048x256_S2048x256 : IVec S2048x256 8)

/-- The layer's weight scales times `2048 ^ (-1/2)`. -/
def wsP (v7 : Vec F S1x256 .f32) : FVec F S1x256 .f32 := mulf v7 (broadcast S1x256 (Scalar.ofBits .f32 0x3CB504F3#32))

/-- The gain row. -/
def gP (v10 : Vec F S1x256 .f32) : FVec F S1x256 .f32 := shapeCast S1x256 v10 shapeCasts_S1x256_S1x256

/-- The lane number at every position of a tile. -/
def lane : IVec S64x128 32 := iota .tc S64x128 32 [1] iota_S64x128_d1_w32

/-- The layer modulo 8, as the body computes it with the sign corrected. -/
def mod8 (a : BitVec 32) : BitVec 32 :=
  Scalar.select
    (Scalar.andi
      (Scalar.xori (Scalar.cmpi .slt (Scalar.remsi a (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi a (Scalar.select (Scalar.cmpi .eq 8#32 0#32) 1#32 8#32)) 0#32))
    (Scalar.addi (Scalar.remsi a (Scalar.select (Scalar.cmpi .eq 8#32 0#32) 1#32 8#32)) (Scalar.select (Scalar.cmpi .eq 8#32 0#32) 1#32 8#32))
    (Scalar.remsi a (Scalar.select (Scalar.cmpi .eq 8#32 0#32) 1#32 8#32))

/-- The word that holds a lane's byte. -/
def wordIdx (a : BitVec 32) : IVec S64x128 32 :=
  addi (broadcast S64x128 (Scalar.muli 16#32 (mod8 a))) (shrsi (andi lane (broadcast S64x128 63#32)) (broadcast S64x128 2#32))

/-- The bit of that word at which a lane's first field starts. -/
def shift0 : IVec S64x128 32 :=
  addi (muli (broadcast S64x128 8#32) (andi lane (broadcast S64x128 3#32)))
    (muli (broadcast S64x128 2#32) (shrsi lane (broadcast S64x128 6#32)))

/-- The lane of the scale tables that holds a lane's first quarter. -/
def qIdx (a : BitVec 32) : IVec S64x128 32 :=
  addi (broadcast S64x128 (Scalar.muli 4#32 a)) (shrsi lane (broadcast S64x128 6#32))

/-- The lanes that are the layer's own. -/
def onL (a : BitVec 32) : IVec S64x128 1 := cmpi .eq lane (broadcast S64x128 a)

/-- One row's product with the layer's weights. -/
def accP (v46 : Vec F S384x2048 .bf16) (w : FVec F S2048x256 .bf16) : FVec F S384x256 .f32 :=
  matmul dot_S384x2048_S2048x256_S384x256_1_0_0_1_n_n none v46 w (constant S384x256 .f32 0x00000000#32)

/-! ## The values of one tile -/

theorem slicesAcc (k : ℕ) (hk : k < 6) : S384x256.Slices ![64 * k, 0] S64x256 := by
  interval_cases k <;> decide
theorem inbRow (b k : ℕ) (hb : b < 6) (hk : k < 6) : ∀ a, (![384 * b + 64 * k, 0] : Fin 2 → Nat) a + S64x128.size a ≤ S2304x128.size a := by
  intro a; fin_cases a
  · show 384 * b + 64 * k + 64 ≤ 2304; omega
  · show 0 + 128 ≤ 128; omega
theorem inbCol (b k : ℕ) (hb : b < 6) (hk : k < 6) : ∀ a, (![384 * b + 64 * k, 0] : Fin 2 → Nat) a + S64x1.size a ≤ S2304x128.size a := by
  intro a; fin_cases a
  · show 384 * b + 64 * k + 64 ≤ 2304; omega
  · show 0 + 1 ≤ 128; omega
theorem inbE (b : ℕ) (hb : b < 6) : ∀ a, (![384 * b, 0] : Fin 2 → Nat) a + S384x2048.size a ≤ S2304x2048.size a := by
  intro a; fin_cases a
  · show 384 * b + 384 ≤ 2304; omega
  · show 0 + 2048 ≤ 2048; omega
theorem inbP (b k : ℕ) (hb : b < 6) (hk : k < 6) : ∀ a, (![b, 0, 64 * k, 0] : Fin 4 → Nat) a + S1x1x64x256.size a ≤ S6x1x384x256.size a := by
  intro a; fin_cases a
  · show b + 1 ≤ 6; omega
  · show 0 + 1 ≤ 1; omega
  · show 64 * k + 64 ≤ 384; omega
  · show 0 + 256 ≤ 256; omega
theorem inbC (b k h : ℕ) (hb : b < 6) (hk : k < 6) (hh : h < 2) : ∀ a, (![b, 0, 64 * k, 128 * h] : Fin 4 → Nat) a + S1x1x64x128.size a ≤ S6x1x384x256.size a := by
  intro a; fin_cases a
  · show b + 1 ≤ 6; omega
  · show 0 + 1 ≤ 1; omega
  · show 64 * k + 64 ≤ 384; omega
  · show 128 * h + 128 ≤ 256; omega
theorem packedC (b k h : ℕ) (hb : b < 6) (hk : k < 6) (hh : h < 2) :
    (Rect.unit (s := S6x1x384x256) ![b, 0, 64 * k, 128 * h] S1x1x64x128.size (inbC b k h hb hk hh)).PackedRows (EltTy.packing .i8) := by
  refine Or.inr ⟨by decide, rfl, Or.inl ⟨?_, ?_⟩⟩
  · show 4 ∣ 64 * k; omega
  · show 4 ∣ 64; decide

/-- A tile of the projection: the product, scaled by the token's scale and the channel's. -/
def pT (k : ℕ) (hk : k < 6) (acc : FVec F S384x256 .f32) (v49 : Vec F S64x1 .f32) (ws : FVec F S1x256 .f32) : FVec F S64x256 .f32 :=
  mulf (mulf (extractStridedSlice S64x256 ![64 * k, 0] acc (slicesAcc k hk)) (broadcastTo S64x256 v49 broadcasts_S64x1_S64x256))
    (broadcastTo S64x256 ws broadcasts_S1x256_S64x256)

/-- The root mean square of each token of a tile. -/
def rmsT (p : FVec F S64x256 .f32) : FVec F S64x1 .f32 :=
  sqrt (addf (mulf (shapeCast S64x1 (multiReduction .add [1] S64 (mulf p p) 0x00000000#32 reduces_S64x256_S64 (.inl rfl) rfl) shapeCasts_S64_S64x1)
    (broadcast S64x1 (Scalar.ofBits .f32 0x3B800000#32))) (broadcast S64x1 (Scalar.ofBits .f32 0x358637BD#32)))

/-- A column as it is stored into an accumulator: the same on every lane. -/
def wide (x : FVec F S64x1 .f32) : FVec F S64x128 .f32 :=
  shapeCast S64x128 (broadcastTo S64x128 (shapeCast S64x1 x shapeCasts_S64x1_S64x1) broadcasts_S64x1_S64x128) shapeCasts_S64x128_S64x128

/-- The accumulators' mask. -/
def maskT (a : BitVec 32) : IVec S64x128 1 := shapeCast S64x128 (onL a) shapeCasts_S64x128_S64x128

/-- `2 ^ (-1/2)` over the root mean square. -/
def invT (rms : FVec F S64x1 .f32) : FVec F S64x1 .f32 := divf (broadcast S64x1 (Scalar.ofBits .f32 0x3F3504F3#32)) rms

/-- A lane index, counted from the end where negative. -/
def fixIdx (idx : IVec S64x128 32) : IVec S64x128 32 :=
  shapeCast S64x128 (shapeCast S64x128x1
    (select (cmpi .slt idx (broadcast S64x128 0#32)) (addi idx (broadcast S64x128 128#32)) idx) shapeCasts_S64x128_S64x128x1)
    shapeCasts_S64x128x1_S64x128

/-- A lane's word. -/
def wvT (a : BitVec 32) (v73 : Vec F S64x128 .i32) : IVec S64x128 32 := dynamicGather 1 v73 (fixIdx (wordIdx a))

/-- A lane's two-bit field, `n` bits after its first. -/
def fieldT (n : BitVec 32) (wv : IVec S64x128 32) : FVec F S64x128 .f32 :=
  sitofp .f32 (andi (shrsi wv (addi shift0 (broadcast S64x128 n))) (broadcast S64x128 3#32))

/-- A lane's entry of a scale table, `n` quarters after its first. -/
def quarterT (a n : BitVec 32) (v88 : Vec F S64x128 .f32) : FVec F S64x128 .f32 :=
  dynamicGather 1 v88 (fixIdx (addi (qIdx a) (broadcast S64x128 n)))

theorem slicesP (h : ℕ) (hh : h < 2) : S64x256.Slices ![0, 128 * h] S64x128 := by
  interval_cases h <;> decide
theorem slicesG (h : ℕ) (hh : h < 2) : S1x256.Slices ![0, 128 * h] S1x128 := by
  interval_cases h <;> decide

/-- One half of a tile's combination of the normalised projection with the dequantised table row. -/
def combT (h : ℕ) (hh : h < 2) (p : FVec F S64x256 .f32) (inv : FVec F S64x1 .f32) (g : FVec F S1x256 .f32) (f s m : FVec F S64x128 .f32) : FVec F S64x128 .f32 :=
  addf (mulf (mulf (extractStridedSlice S64x128 ![0, 128 * h] p (slicesP h hh)) (broadcastTo S64x128 inv broadcasts_S64x1_S64x128))
      (broadcastTo S64x128 (extractStridedSlice S1x128 ![0, 128 * h] g (slicesG h hh)) broadcasts_S1x128_S64x128))
    (addf (mulf f s) m)

/-- The quantiser's scale of each token of a tile, from the two halves. -/
def scaleT (c0 c1 : FVec F S64x128 .f32) : FVec F S64x1 .f32 :=
  select (cmpf .oeq (shapeCast S64x1 (multiReduction .maximumf [1] S64 (maximumf (absf c0) (absf c1)) 0xFF800000#32 reduces_S64x128_S64 (.inl rfl) rfl) shapeCasts_S64_S64x1)
      (broadcast S64x1 (Scalar.ofBits .f32 0x00000000#32)))
    (broadcast S64x1 (Scalar.ofBits .f32 0x3F800000#32))
    (mulf (shapeCast S64x1 (multiReduction .maximumf [1] S64 (maximumf (absf c0) (absf c1)) 0xFF800000#32 reduces_S64x128_S64 (.inl rfl) rfl) shapeCasts_S64_S64x1)
      (broadcast S64x1 (Named.named κ "inv127" 0x3C010204#32)))

/-- The codes of one half of a tile. -/
def codesT (c : FVec F S64x128 .f32) (sc : FVec F S64x1 .f32) : IVec S64x128 8 :=
  fptosi 8 (minimumf (broadcast S64x128 (Scalar.sitofp .f32 127#32))
    (maximumf (broadcast S64x128 (Scalar.sitofp .f32 4294967169#32)) (roundeven (divf c (broadcastTo S64x128 sc broadcasts_S64x1_S64x128)))))

/-! ## The programs -/

/-- One tile of 64 tokens. -/
def tile (b k : ℕ) (hb : b < 6) (hk : k < 6) (a : BitVec 32) (ws g : FVec F S1x256 .f32) (acc : FVec F S384x256 .f32)
    (arg2 : Memref sig .tc .vmem S2304x128 .f32) (arg6 : Memref sig .tc .vmem S2304x128 .i32) (arg7 arg8 : Memref sig .tc .vmem S2304x128 .f32)
    (arg9 : Memref sig .tc .vmem S6x1x384x256 .f32) (arg11 : Memref sig .tc .vmem S6x1x384x256 .i8) (harg11 : arg11.IsWhole)
    (arg14 arg15 : Memref sig .tc .vmem S2304x128 .f32) : Prog (TpuEff nD τ sig (Elt F) Λ₀ .tc) PUnit := do
  let v49 : Vec F S64x1 .f32 ← Prog.lift (.load arg2 (Rect.unit (s := S2304x128) ![384 * b + 64 * k, 0] S64x1.size (inbCol b k hb hk)).toLoadRect (View.loadsAt_vmem h_S64x1))
  let _x : Vec F S1x1x64x256 .f32 ← Prog.lift (.load arg9 (Rect.unit (s := S6x1x384x256) ![b, 0, 64 * k, 0] S1x1x64x256.size (inbP b k hb hk)).toLoadRect (View.loadsAt_vmem h_S1x1x64x256))
  Prog.lift (.store arg9 (Rect.unit (s := S6x1x384x256) ![b, 0, 64 * k, 0] S1x1x64x256.size (inbP b k hb hk))
    (shapeCast S1x1x64x256 (pT k hk acc v49 ws) shapeCasts_S64x256_S1x1x64x256) Finset.univ (View.stores_vmem_bits_univ h_S1x1x64x256 rfl) (.inl rfl))
  let _x : Vec F S64x128 .f32 ← Prog.lift (.load arg14 (Rect.unit (s := S2304x128) ![384 * b + 64 * k, 0] S64x128.size (inbRow b k hb hk)).toLoadRect (View.loadsAt_vmem h_S64x128))
  Prog.lift (.store arg14 (Rect.unit (s := S2304x128) ![384 * b + 64 * k, 0] S64x128.size (inbRow b k hb hk))
    (wide (rmsT (pT k hk acc v49 ws))) (IVec.on (maskT a)) (View.stores_vmem_bits h_S64x128 rfl (fun h => nomatch h)) (.inr (fun _ => rfl)))
  let v73 : Vec F S64x128 .i32 ← Prog.lift (.load arg6 (Rect.unit (s := S2304x128) ![384 * b + 64 * k, 0] S64x128.size (inbRow b k hb hk)).toLoadRect (View.loadsAt_vmem h_S64x128))
  let v88 : Vec F S64x128 .f32 ← Prog.lift (.load arg7 (Rect.unit (s := S2304x128) ![384 * b + 64 * k, 0] S64x128.size (inbRow b k hb hk)).toLoadRect (View.loadsAt_vmem h_S64x128))
  let v99 : Vec F S64x128 .f32 ← Prog.lift (.load arg8 (Rect.unit (s := S2304x128) ![384 * b + 64 * k, 0] S64x128.size (inbRow b k hb hk)).toLoadRect (View.loadsAt_vmem h_S64x128))
  let v125 : Vec F S64x128 .f32 ← Prog.lift (.load arg7 (Rect.unit (s := S2304x128) ![384 * b + 64 * k, 0] S64x128.size (inbRow b k hb hk)).toLoadRect (View.loadsAt_vmem h_S64x128))
  let v136 : Vec F S64x128 .f32 ← Prog.lift (.load arg8 (Rect.unit (s := S2304x128) ![384 * b + 64 * k, 0] S64x128.size (inbRow b k hb hk)).toLoadRect (View.loadsAt_vmem h_S64x128))
  let _x : Vec F S64x128 .f32 ← Prog.lift (.load arg15 (Rect.unit (s := S2304x128) ![384 * b + 64 * k, 0] S64x128.size (inbRow b k hb hk)).toLoadRect (View.loadsAt_vmem h_S64x128))
  Prog.lift (.store arg15 (Rect.unit (s := S2304x128) ![384 * b + 64 * k, 0] S64x128.size (inbRow b k hb hk))
    (wide (scaleT (combT 0 (by decide) (pT k hk acc v49 ws) (invT (rmsT (pT k hk acc v49 ws))) g (fieldT 0#32 (wvT a v73)) (quarterT a 0#32 v88) (quarterT a 0#32 v99))
      (combT 1 (by decide) (pT k hk acc v49 ws) (invT (rmsT (pT k hk acc v49 ws))) g (fieldT 4#32 (wvT a v73)) (quarterT a 2#32 v125) (quarterT a 2#32 v136))))
    (IVec.on (maskT a)) (View.stores_vmem_bits h_S64x128 rfl (fun h => nomatch h)) (.inr (fun _ => rfl)))
  let _x : Vec F S1x1x64x128 .i8 ← Prog.lift (.load arg11 (Rect.unit (s := S6x1x384x256) ![b, 0, 64 * k, 128 * 0] S1x1x64x128.size (inbC b k 0 hb hk (by decide))).toLoadRect (View.loadsAt_vmem h_S1x1x64x128))
  Prog.lift (.store arg11 (Rect.unit (s := S6x1x384x256) ![b, 0, 64 * k, 128 * 0] S1x1x64x128.size (inbC b k 0 hb hk (by decide)))
    (shapeCast S1x1x64x128 (codesT (combT 0 (by decide) (pT k hk acc v49 ws) (invT (rmsT (pT k hk acc v49 ws))) g (fieldT 0#32 (wvT a v73)) (quarterT a 0#32 v88) (quarterT a 0#32 v99))
      (scaleT (combT 0 (by decide) (pT k hk acc v49 ws) (invT (rmsT (pT k hk acc v49 ws))) g (fieldT 0#32 (wvT a v73)) (quarterT a 0#32 v88) (quarterT a 0#32 v99))
        (combT 1 (by decide) (pT k hk acc v49 ws) (invT (rmsT (pT k hk acc v49 ws))) g (fieldT 4#32 (wvT a v73)) (quarterT a 2#32 v125) (quarterT a 2#32 v136)))) shapeCasts_S64x128_S1x1x64x128)
    Finset.univ (View.stores_vmem h_S1x1x64x128 (harg11.storeExact_slice rfl _ (packedC b k 0 hb hk (by decide))) (fun _ => rfl)) (.inl rfl))
  let _x : Vec F S1x1x64x128 .i8 ← Prog.lift (.load arg11 (Rect.unit (s := S6x1x384x256) ![b, 0, 64 * k, 128 * 1] S1x1x64x128.size (inbC b k 1 hb hk (by decide))).toLoadRect (View.loadsAt_vmem h_S1x1x64x128))
  Prog.lift (.store arg11 (Rect.unit (s := S6x1x384x256) ![b, 0, 64 * k, 128 * 1] S1x1x64x128.size (inbC b k 1 hb hk (by decide)))
    (shapeCast S1x1x64x128 (codesT (combT 1 (by decide) (pT k hk acc v49 ws) (invT (rmsT (pT k hk acc v49 ws))) g (fieldT 4#32 (wvT a v73)) (quarterT a 2#32 v125) (quarterT a 2#32 v136))
      (scaleT (combT 0 (by decide) (pT k hk acc v49 ws) (invT (rmsT (pT k hk acc v49 ws))) g (fieldT 0#32 (wvT a v73)) (quarterT a 0#32 v88) (quarterT a 0#32 v99))
        (combT 1 (by decide) (pT k hk acc v49 ws) (invT (rmsT (pT k hk acc v49 ws))) g (fieldT 4#32 (wvT a v73)) (quarterT a 2#32 v125) (quarterT a 2#32 v136)))) shapeCasts_S64x128_S1x1x64x128)
    Finset.univ (View.stores_vmem h_S1x1x64x128 (harg11.storeExact_slice rfl _ (packedC b k 1 hb hk (by decide))) (fun _ => rfl)) (.inl rfl))

/-- One batch row: the product, then its six tiles. -/
def row (b : ℕ) (hb : b < 6) (a : BitVec 32) (w : FVec F S2048x256 .bf16) (ws g : FVec F S1x256 .f32)
    (arg2 : Memref sig .tc .vmem S2304x128 .f32) (arg6 : Memref sig .tc .vmem S2304x128 .i32) (arg7 arg8 : Memref sig .tc .vmem S2304x128 .f32)
    (arg9 : Memref sig .tc .vmem S6x1x384x256 .f32) (arg11 : Memref sig .tc .vmem S6x1x384x256 .i8) (harg11 : arg11.IsWhole)
    (arg13 : Memref sig .tc .vmem S2304x2048 .bf16) (arg14 arg15 : Memref sig .tc .vmem S2304x128 .f32) : Prog (TpuEff nD τ sig (Elt F) Λ₀ .tc) PUnit := do
  let v46 : Vec F S384x2048 .bf16 ← Prog.lift (.load arg13 (Rect.unit (s := S2304x2048) ![384 * b, 0] S384x2048.size (inbE b hb)).toLoadRect (View.loadsAt_vmem h_S384x2048))
  tile b 0 hb (by decide) a ws g (accP v46 w) arg2 arg6 arg7 arg8 arg9 arg11 harg11 arg14 arg15
  tile b 1 hb (by decide) a ws g (accP v46 w) arg2 arg6 arg7 arg8 arg9 arg11 harg11 arg14 arg15
  tile b 2 hb (by decide) a ws g (accP v46 w) arg2 arg6 arg7 arg8 arg9 arg11 harg11 arg14 arg15
  tile b 3 hb (by decide) a ws g (accP v46 w) arg2 arg6 arg7 arg8 arg9 arg11 harg11 arg14 arg15
  tile b 4 hb (by decide) a ws g (accP v46 w) arg2 arg6 arg7 arg8 arg9 arg11 harg11 arg14 arg15
  tile b 5 hb (by decide) a ws g (accP v46 w) arg2 arg6 arg7 arg8 arg9 arg11 harg11 arg14 arg15

theorem inbAcc (b k : ℕ) (hb : b < 6) (hk : k < 3) : ∀ a, (![384 * b + 128 * k, 0] : Fin 2 → Nat) a + S128x128.size a ≤ S2304x128.size a := by
  intro a; fin_cases a
  · show 384 * b + 128 * k + 128 ≤ 2304; omega
  · show 0 + 128 ≤ 128; omega
theorem inbOut (b k : ℕ) (hb : b < 6) (hk : k < 3) : ∀ a, (![b, 0, 128 * k] : Fin 3 → Nat) a + S1x30x128.size a ≤ S6x30x384.size a := by
  intro a; fin_cases a
  · show b + 1 ≤ 6; omega
  · show 0 + 30 ≤ 30; omega
  · show 128 * k + 128 ≤ 384; omega

/-- A block of an accumulator as it is stored into a result: transposed, the layers' lanes kept. -/
def outT (x : Vec F S128x128 .f32) : FVec F S1x30x128 .f32 :=
  shapeCast S1x30x128 (extractStridedSlice S30x128 ![0, 0] (transpose S128x128 [1, 0] x transposes_S128x128_p1_0_S128x128) slices_S128x128_o0_0_S30x128) shapeCasts_S30x128_S1x30x128

/-- One block of an accumulator moved to a result. -/
def outOne (b k : ℕ) (hb : b < 6) (hk : k < 3) (src : Memref sig .tc .vmem S2304x128 .f32) (dst : Memref sig .tc .vmem S6x30x384 .f32) :
    Prog (TpuEff nD τ sig (Elt F) Λ₀ .tc) PUnit := do
  let v : Vec F S128x128 .f32 ← Prog.lift (.load src (Rect.unit (s := S2304x128) ![384 * b + 128 * k, 0] S128x128.size (inbAcc b k hb hk)).toLoadRect (View.loadsAt_vmem h_S128x128))
  let _x : Vec F S1x30x128 .f32 ← Prog.lift (.load dst (Rect.unit (s := S6x30x384) ![b, 0, 128 * k] S1x30x128.size (inbOut b k hb hk)).toLoadRect (View.loadsAt_vmem h_S1x30x128))
  Prog.lift (.store dst (Rect.unit (s := S6x30x384) ![b, 0, 128 * k] S1x30x128.size (inbOut b k hb hk)) (outT v) Finset.univ (View.stores_vmem_bits_univ h_S1x30x128 rfl) (.inl rfl))

/-- One row of both results. -/
def outRow (b : ℕ) (hb : b < 6) (arg10 arg12 : Memref sig .tc .vmem S6x30x384 .f32) (arg14 arg15 : Memref sig .tc .vmem S2304x128 .f32) :
    Prog (TpuEff nD τ sig (Elt F) Λ₀ .tc) PUnit := do
  outOne b 0 hb (by decide) arg14 arg10
  outOne b 0 hb (by decide) arg15 arg12
  outOne b 1 hb (by decide) arg14 arg10
  outOne b 1 hb (by decide) arg15 arg12
  outOne b 2 hb (by decide) arg14 arg10
  outOne b 2 hb (by decide) arg15 arg12

/-- Both results whole. -/
def outAll (arg10 arg12 : Memref sig .tc .vmem S6x30x384 .f32) (arg14 arg15 : Memref sig .tc .vmem S2304x128 .f32) :
    Prog (TpuEff nD τ sig (Elt F) Λ₀ .tc) PUnit := do
  outRow 0 (by decide) arg10 arg12 arg14 arg15
  outRow 1 (by decide) arg10 arg12 arg14 arg15
  outRow 2 (by decide) arg10 arg12 arg14 arg15
  outRow 3 (by decide) arg10 arg12 arg14 arg15
  outRow 4 (by decide) arg10 arg12 arg14 arg15
  outRow 5 (by decide) arg10 arg12 arg14 arg15

theorem packedE (b : ℕ) (hb : b < 6) :
    (Rect.unit (s := S2304x2048) ![384 * b, 0] S384x2048.size (inbE b hb)).PackedRows (EltTy.packing .bf16) := by
  refine Or.inr ⟨by decide, rfl, Or.inl ⟨?_, ?_⟩⟩
  · show 2 ∣ 384 * b; omega
  · show 2 ∣ 384; decide

/-- A block of the codes as it is stored for the products. -/
def eT (x : Vec F S384x2048 .i8) : FVec F S384x2048 .bf16 :=
  shapeCast S384x2048 (sitofp .bf16 (x : IVec S384x2048 8)) shapeCasts_S384x2048_S384x2048

/-- One batch row of the codes stored as bf16. -/
def inOne (b : ℕ) (hb : b < 6) (arg1 : Memref sig .tc .vmem S2304x2048 .i8) (arg13 : Memref sig .tc .vmem S2304x2048 .bf16) (harg13 : arg13.IsWhole) :
    Prog (TpuEff nD τ sig (Elt F) Λ₀ .tc) PUnit := do
  let v : Vec F S384x2048 .i8 ← Prog.lift (.load arg1 (Rect.unit (s := S2304x2048) ![384 * b, 0] S384x2048.size (inbE b hb)).toLoadRect (View.loadsAt_vmem h_S384x2048))
  let _x : Vec F S384x2048 .bf16 ← Prog.lift (.load arg13 (Rect.unit (s := S2304x2048) ![384 * b, 0] S384x2048.size (inbE b hb)).toLoadRect (View.loadsAt_vmem h_S384x2048))
  Prog.lift (.store arg13 (Rect.unit (s := S2304x2048) ![384 * b, 0] S384x2048.size (inbE b hb)) (eT v) Finset.univ
    (View.stores_vmem h_S384x2048 (harg13.storeExact_slice rfl _ (packedE b hb)) (fun _ => rfl)) (.inl rfl))

/-- All codes stored as bf16. -/
def inAll (arg1 : Memref sig .tc .vmem S2304x2048 .i8) (arg13 : Memref sig .tc .vmem S2304x2048 .bf16) (harg13 : arg13.IsWhole) :
    Prog (TpuEff nD τ sig (Elt F) Λ₀ .tc) PUnit := do
  inOne 0 (by decide) arg1 arg13 harg13
  inOne 1 (by decide) arg1 arg13 harg13
  inOne 2 (by decide) arg1 arg13 harg13
  inOne 3 (by decide) arg1 arg13 harg13
  inOne 4 (by decide) arg1 arg13 harg13
  inOne 5 (by decide) arg1 arg13 harg13

/-- The layer as a word. -/
def lay (i : grid0.Coords) : BitVec 32 := BitVec.ofNat 32 (i 0).val

/-- The first layer's test. -/
def isFirst (i : grid0.Coords) : BitVec 1 := Scalar.cmpi .ne ((Scalar.extui (Scalar.cmpi .eq (lay i) 0#32) : BitVec 32)) 0#32

/-- The body of one grid point. -/
def body (i : grid0.Coords) (arg1 : Memref sig .tc .vmem S2304x2048 .i8) (arg2 : Memref sig .tc .vmem S2304x128 .f32)
    (arg3 : Memref sig .tc .vmem S1x2048x256 .i8) (arg4 : Memref sig .tc .vmem S30x256 .f32) (arg5 : Memref sig .tc .vmem S1x256 .f32)
    (arg6 : Memref sig .tc .vmem S2304x128 .i32) (arg7 arg8 : Memref sig .tc .vmem S2304x128 .f32)
    (arg9 : Memref sig .tc .vmem S6x1x384x256 .f32) (arg10 : Memref sig .tc .vmem S6x30x384 .f32)
    (arg11 : Memref sig .tc .vmem S6x1x384x256 .i8) (harg11 : arg11.IsWhole) (arg12 : Memref sig .tc .vmem S6x30x384 .f32)
    (arg13 : Memref sig .tc .vmem S2304x2048 .bf16) (harg13 : arg13.IsWhole) (arg14 arg15 : Memref sig .tc .vmem S2304x128 .f32) :
    Prog (TpuEff nD τ sig (Elt F) Λ₀ .tc) PUnit := do
  if h : isFirst i = 1#1 then inAll arg1 arg13 harg13 else pure ⟨⟩
  let v3 : Vec F S1x2048x256 .i8 ← Prog.lift (.load arg3 (Rect.unit (s := S1x2048x256) ![0, 0, 0] S1x2048x256.size inb_S1x2048x256_S1x2048x256_0_0_0).toLoadRect (View.loadsAt_vmem h_S1x2048x256))
  let v7 : Vec F S1x256 .f32 ← Prog.lift (.load arg4 (Rect.unit (s := S30x256) (k0_off1 i) S1x256.size (k0_off1_inb i)).toLoadRect (View.loadsAt_vmem h_S1x256))
  let v10 : Vec F S1x256 .f32 ← Prog.lift (.load arg5 (Rect.unit (s := S1x256) ![0, 0] S1x256.size inb_S1x256_S1x256_0_0).toLoadRect (View.loadsAt_vmem h_S1x256))
  row 0 (by decide) (lay i) (wB v3) (wsP v7) (gP v10) arg2 arg6 arg7 arg8 arg9 arg11 harg11 arg13 arg14 arg15
  row 1 (by decide) (lay i) (wB v3) (wsP v7) (gP v10) arg2 arg6 arg7 arg8 arg9 arg11 harg11 arg13 arg14 arg15
  row 2 (by decide) (lay i) (wB v3) (wsP v7) (gP v10) arg2 arg6 arg7 arg8 arg9 arg11 harg11 arg13 arg14 arg15
  row 3 (by decide) (lay i) (wB v3) (wsP v7) (gP v10) arg2 arg6 arg7 arg8 arg9 arg11 harg11 arg13 arg14 arg15
  row 4 (by decide) (lay i) (wB v3) (wsP v7) (gP v10) arg2 arg6 arg7 arg8 arg9 arg11 harg11 arg13 arg14 arg15
  row 5 (by decide) (lay i) (wB v3) (wsP v7) (gP v10) arg2 arg6 arg7 arg8 arg9 arg11 harg11 arg13 arg14 arg15
  if h : k0_cond2 i = 1#1 then outAll arg10 arg12 arg14 arg15 else pure ⟨⟩
  pure ⟨⟩

end Cert.KernelIdeal.Hand

end
-- ==== Proof.Body.lean ====
/- The printed body is the body written tile by tile. -/
module

public import proofs.«01_k».proof.Proof.Ops
public import Idealize.ShloMosaic.Lib.Tactic

@[expose] public section

set_option maxRecDepth 65536

noncomputable section

namespace Cert.KernelIdeal.Hand

open Idealize.ShloMosaic Idealize.SL.Sem
open Cert.KernelIdeal Cert.KernelIdeal.Gen

variable {F : FTy → Type} [FloatOps F] [Named F]

theorem body_eq (i : grid0.Coords) (arg1 : Memref sig .tc .vmem S2304x2048 .i8) (harg1 : arg1.IsWhole) (arg2 : Memref sig .tc .vmem S2304x128 .f32) (harg2 : arg2.IsWhole) (arg3 : Memref sig .tc .vmem S1x2048x256 .i8) (harg3 : arg3.IsWhole) (arg4 : Memref sig .tc .vmem S30x256 .f32) (harg4 : arg4.IsWhole) (arg5 : Memref sig .tc .vmem S1x256 .f32) (harg5 : arg5.IsWhole) (arg6 : Memref sig .tc .vmem S2304x128 .i32) (harg6 : arg6.IsWhole) (arg7 : Memref sig .tc .vmem S2304x128 .f32) (harg7 : arg7.IsWhole) (arg8 : Memref sig .tc .vmem S2304x128 .f32) (harg8 : arg8.IsWhole) (arg9 : Memref sig .tc .vmem S6x1x384x256 .f32) (harg9 : arg9.IsWhole) (arg10 : Memref sig .tc .vmem S6x30x384 .f32) (harg10 : arg10.IsWhole) (arg11 : Memref sig .tc .vmem S6x1x384x256 .i8) (harg11 : arg11.IsWhole) (arg12 : Memref sig .tc .vmem S6x30x384 .f32) (harg12 : arg12.IsWhole) (arg13 : Memref sig .tc .vmem S2304x2048 .bf16) (harg13 : arg13.IsWhole) (arg14 : Memref sig .tc .vmem S2304x128 .f32) (harg14 : arg14.IsWhole) (arg15 : Memref sig .tc .vmem S2304x128 .f32) (harg15 : arg15.IsWhole) :
    cc0_project (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = body i arg1 arg2 arg3 arg4 arg5 arg6 arg7 arg8 arg9 arg10 arg11 harg11 arg12 arg13 harg13 arg14 arg15 := by
  by_cases h : isFirst i = 1#1
  · unfold cc0_project k0_part139 k0_part9 body
    unfold isFirst lay at h
    unfold isFirst lay
    dsimp only
    rw [dif_pos h, dif_pos h]
    sl_kernel_rfl
  · unfold cc0_project k0_part139 k0_part9 body
    unfold isFirst lay at h
    unfold isFirst lay
    dsimp only
    rw [dif_neg h, dif_neg h]
    sl_kernel_rfl

end Cert.KernelIdeal.Hand

end
-- ==== Proof.Rules.lean ====
/- Loads and stores through a rectangle of a memref that is owned at known values: a load yields the values under the rectangle, a
   store leaves any values that agree with the payload under the stored positions and with the old values elsewhere. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A program's weakest precondition on a device's core. -/
abbrev wpk (c : Dev nD) (p : Prog (TpuEff nD τ sig (Elt F) Λ₀ .tc) PUnit) (Q : PUnit → sProp 𝕄) : sProp 𝕄 :=
  wp frame (wpE (defs₀ (F := F)) Variants.none c none) Set.univ p Q

variable {sp : CoreSpace} {s : Shape} {e : EltTy}

/-- A load yields the values under its rectangle. -/
theorem wp_ld (c : Dev nD) (m : Memref sig .tc sp s e) (r : Rect s) (hl : m.view.LoadsAt r.toLoadRect) (X : s.Idx → Elt F e)
    (k : (r.shape.Idx → Elt F e) → Prog (TpuEff nD τ sig (Elt F) Λ₀ .tc) PUnit) (Q : PUnit → sProp 𝕄) :
    owns (c : Thread nD τ) m fullShare X
      ⊢ iprop((owns (c : Thread nD τ) m fullShare X -∗ wpk c (k (fun y => X (r.emb y))) Q) -∗ wpk c (.op (.load m r.toLoadRect hl) k) Q) := by
  unfold owns
  iintro ⟨%f, %hf, H⟩
  iintro K
  iapply (wp_load_rect (m := m) (r := r) Variants.none (c : Thread nD τ) none Set.univ (S := m.view.set) (View.set_slice_subset _ _)) $$ H
  iintro H
  subst hf
  iapply K
  iexists f
  isplitr
  · ipureintro; rfl
  · iexact H

/-- A store leaves the payload under the positions stored and the old values elsewhere. -/
theorem wp_st (c : Dev nD) (m : Memref sig .tc sp s e) (r : Rect s) (w : r.shape.Idx → Elt F e) (Mk : Finset r.shape.Idx) (hx : (m.access r).Stores Mk)
    (hm : Mk = Finset.univ ∨ ∀ a, r.stride a = 1) (X X' : s.Idx → Elt F e)
    (hin : ∀ y ∈ Mk, X' (r.emb y) = w y) (hout : ∀ x, (∀ y ∈ Mk, r.emb y ≠ x) → X' x = X x)
    (k : PUnit → Prog (TpuEff nD τ sig (Elt F) Λ₀ .tc) PUnit) (Q : PUnit → sProp 𝕄) :
    owns (c : Thread nD τ) m fullShare X
      ⊢ iprop((owns (c : Thread nD τ) m fullShare X' -∗ wpk c (k ⟨⟩) Q) -∗ wpk c (.op (.store m r w Mk hx hm) k) Q) := by
  unfold owns
  iintro ⟨%f, %hf, H⟩
  iintro K
  iapply (wp_store (m := m) (r := r) (w := w) (Mk := Mk) Variants.none (c : Thread nD τ) none Set.univ (S := m.view.set)
    ((View.setOn_subset_set _ _).trans (View.set_slice_subset _ _))) $$ H
  iintro H
  subst hf
  iapply K
  iexists _
  isplitr
  swap; · iexact H
  ipureintro
  funext x
  by_cases hxm : x ∈ Mk.map r.emb
  · obtain ⟨y, hy, rfl⟩ := Finset.mem_map.mp hxm
    rw [hin y hy]; exact View.read_slice_write_emb r f w hy
  · rw [hout x (fun y hy hxy => hxm (Finset.mem_map.mpr ⟨y, hy, hxy⟩))]
    exact View.read_slice_write_of_not_mem r f w Mk hxm

end Cert.KernelIdeal.Hand

end
-- ==== Proof.Values.lean ====
/- What one grid point's tiles compute, as functions of the values that the point reads, and the four buffers after some of the tiles
   have been stored: a buffer holds the tiles' values at the positions of the tiles done and its old values elsewhere. -/
module

public import proofs.«01_k».proof.Proof.Ops
public import Idealize.ShloMosaic.Lib.Pipeline.Value
public import Idealize.ShloMosaic.Lib.Pointwise.Index

@[expose] public section

set_option maxRecDepth 16384

noncomputable section

namespace Cert.KernelIdeal.Hand

open Idealize.ShloMosaic Idealize.SL.Sem
open Cert.KernelIdeal Cert.KernelIdeal.Gen

variable {F : FTy → Type} [FloatOps F] [Named F]

/-- The values that one grid point's tiles read. -/
structure In (F : FTy → Type) where
  /-- the layer -/
  a : BitVec 32
  /-- the layer's weights -/
  w : FVec F S2048x256 .bf16
  /-- the layer's weight scales -/
  ws : FVec F S1x256 .f32
  /-- the gains -/
  g : FVec F S1x256 .f32
  /-- the codes -/
  EB : Vec F S2304x2048 .bf16
  /-- the tokens' scales -/
  E2 : Vec F S2304x128 .f32
  /-- the words of the packed table rows -/
  W6 : Vec F S2304x128 .i32
  /-- the scales of the table rows -/
  S7 : Vec F S2304x128 .f32
  /-- the minima of the table rows -/
  M8 : Vec F S2304x128 .f32

namespace In

variable (I : In F) (b k : ℕ) (hb : b < 6) (hk : k < 6)

/-- The product of row `b`. -/
def acc : FVec F S384x256 .f32 :=
  accP (fun y => I.EB ((Rect.unit (s := S2304x2048) ![384 * b, 0] S384x2048.size (inbE b hb)).emb y)) I.w

/-- The rows of a tile of a table. -/
def rows {e : EltTy} (X : Vec F S2304x128 e) : Vec F S64x128 e :=
  fun y => X ((Rect.unit (s := S2304x128) ![384 * b + 64 * k, 0] S64x128.size (inbRow b k hb hk)).emb y)

/-- The projection of a tile. -/
def p : FVec F S64x256 .f32 :=
  pT k hk (I.acc b hb) (fun y => I.E2 ((Rect.unit (s := S2304x128) ![384 * b + 64 * k, 0] S64x1.size (inbCol b k hb hk)).emb y)) I.ws

/-- The root mean squares of a tile. -/
def rms : FVec F S64x1 .f32 := rmsT (I.p b k hb hk)

/-- The lower half of a tile's combination. -/
def c0 : FVec F S64x128 .f32 :=
  combT 0 (by decide) (I.p b k hb hk) (invT (I.rms b k hb hk)) I.g (fieldT 0#32 (wvT (F := F) I.a (rows b k hb hk I.W6)))
    (quarterT I.a 0#32 (rows b k hb hk I.S7)) (quarterT I.a 0#32 (rows b k hb hk I.M8))

/-- The upper half of a tile's combination. -/
def c1 : FVec F S64x128 .f32 :=
  combT 1 (by decide) (I.p b k hb hk) (invT (I.rms b k hb hk)) I.g (fieldT 4#32 (wvT (F := F) I.a (rows b k hb hk I.W6)))
    (quarterT I.a 2#32 (rows b k hb hk I.S7)) (quarterT I.a 2#32 (rows b k hb hk I.M8))

/-- The scales of a tile. -/
def sc : FVec F S64x1 .f32 := scaleT (I.c0 b k hb hk) (I.c1 b k hb hk)

/-- The codes of a half of a tile. -/
def code (h : ℕ) : IVec S64x128 8 :=
  if h = 0 then codesT (I.c0 b k hb hk) (I.sc b k hb hk) else codesT (I.c1 b k hb hk) (I.sc b k hb hk)

/-- The projection at a position of the layer's block. -/
def P (x : S6x1x384x256.Idx) : F .f32 :=
  I.p (x 0).val ((x 2).val / 64) (x 0).isLt (Nat.div_lt_of_lt_mul (x 2).isLt) (ix2 (⟨(x 2).val % 64, Nat.mod_lt _ (by decide)⟩ : Fin 64) (⟨(x 3).val, (x 3).isLt⟩ : Fin 256))

/-- The codes at a position of the layer's block. -/
def C (x : S6x1x384x256.Idx) : BitVec 8 :=
  I.code (x 0).val ((x 2).val / 64) (x 0).isLt (Nat.div_lt_of_lt_mul (x 2).isLt) ((x 3).val / 128)
    (ix2 (⟨(x 2).val % 64, Nat.mod_lt _ (by decide)⟩ : Fin 64) (⟨(x 3).val % 128, Nat.mod_lt _ (by decide)⟩ : Fin 128))

/-- The root mean square of a token. -/
def RMS (r : Fin 2304) : F .f32 :=
  I.rms (r.val / 384) (r.val % 384 / 64) (Nat.div_lt_of_lt_mul r.isLt) (Nat.div_lt_of_lt_mul (Nat.mod_lt _ (by decide)))
    (ix2 (⟨r.val % 64, Nat.mod_lt _ (by decide)⟩ : Fin 64) (0 : Fin 1))

/-- The quantiser's scale of a token. -/
def SC (r : Fin 2304) : F .f32 :=
  I.sc (r.val / 384) (r.val % 384 / 64) (Nat.div_lt_of_lt_mul r.isLt) (Nat.div_lt_of_lt_mul (Nat.mod_lt _ (by decide)))
    (ix2 (⟨r.val % 64, Nat.mod_lt _ (by decide)⟩ : Fin 64) (0 : Fin 1))

/-- The projection's buffer after `n` tiles. -/
def st9 (n : ℕ) (X : Vec F S6x1x384x256 .f32) : Vec F S6x1x384x256 .f32 :=
  fun x => if 6 * (x 0).val + (x 2).val / 64 < n then I.P x else X x

/-- The codes' buffer after `n` half tiles. -/
def st11 (n : ℕ) (X : Vec F S6x1x384x256 .i8) : Vec F S6x1x384x256 .i8 :=
  fun x => if 12 * (x 0).val + 2 * ((x 2).val / 64) + (x 3).val / 128 < n then I.C x else X x

/-- The lane is the layer's own. -/
def own (l : ℕ) : Prop := BitVec.ofNat 32 l = I.a

instance (l : ℕ) : Decidable (I.own l) := by unfold own; infer_instance

/-- The root mean squares' accumulator after `n` tiles. -/
def st14 (n : ℕ) (X : Vec F S2304x128 .f32) : Vec F S2304x128 .f32 :=
  fun x => if (x 0).val / 64 < n ∧ I.own (x 1).val then I.RMS (x 0) else X x

/-- The scales' accumulator after `n` tiles. -/
def st15 (n : ℕ) (X : Vec F S2304x128 .f32) : Vec F S2304x128 .f32 :=
  fun x => if (x 0).val / 64 < n ∧ I.own (x 1).val then I.SC (x 0) else X x

theorem p_congr {b b' k k' : ℕ} {hb : b < 6} {hb' : b' < 6} {hk : k < 6} {hk' : k' < 6} (h : b = b') (h' : k = k') {y y' : S64x256.Idx} (hy : y = y') :
    I.p b k hb hk y = I.p b' k' hb' hk' y' := by subst h; subst h'; subst hy; rfl
theorem rms_congr {b b' k k' : ℕ} {hb : b < 6} {hb' : b' < 6} {hk : k < 6} {hk' : k' < 6} (h : b = b') (h' : k = k') {y y' : S64x1.Idx} (hy : y = y') :
    I.rms b k hb hk y = I.rms b' k' hb' hk' y' := by subst h; subst h'; subst hy; rfl
theorem sc_congr {b b' k k' : ℕ} {hb : b < 6} {hb' : b' < 6} {hk : k < 6} {hk' : k' < 6} (h : b = b') (h' : k = k') {y y' : S64x1.Idx} (hy : y = y') :
    I.sc b k hb hk y = I.sc b' k' hb' hk' y' := by subst h; subst h'; subst hy; rfl
theorem code_congr {b b' k k' j j' : ℕ} {hb : b < 6} {hb' : b' < 6} {hk : k < 6} {hk' : k' < 6} (h : b = b') (h' : k = k') (hj : j = j') {y y' : S64x128.Idx} (hy : y = y') :
    I.code b k hb hk j y = I.code b' k' hb' hk' j' y' := by subst h; subst h'; subst hj; subst hy; rfl

/-! ### What the stores of a tile must find -/

theorem cast_pair (n : ℕ) {α : Type} (v : (⟨2, ![64, n]⟩ : Shape).Idx → α) (h : (⟨2, ![64, n]⟩ : Shape).ShapeCasts ⟨4, ![1, 1, 64, n]⟩)
    (y : (⟨4, ![1, 1, 64, n]⟩ : Shape).Idx) : shapeCast ⟨4, ![1, 1, 64, n]⟩ v h y = v (ix2 (y 2) (y 3)) := by
  refine shapeCast_apply _ h y _ ?_
  have h0 : (y 0).val < 1 := (y 0).isLt
  have h1 : (y 1).val < 1 := (y 1).isLt
  simp only [Shape.rowMajor_val_two, Shape.rowMajor_val_four, ix2_0, ix2_1]
  show (y 2).val * n + (y 3).val = (((y 0).val * 1 + (y 1).val) * 64 + (y 2).val) * n + (y 3).val
  rw [show (y 0).val = 0 by omega, show (y 1).val = 0 by omega]
  simp

theorem st9_in (X : Vec F S6x1x384x256 .f32) (y : S1x1x64x256.Idx) :
    I.st9 (6 * b + k + 1) X ((Rect.unit (s := S6x1x384x256) ![b, 0, 64 * k, 0] S1x1x64x256.size (inbP b k hb hk)).emb y)
      = shapeCast S1x1x64x256 (I.p b k hb hk) shapeCasts_S64x256_S1x1x64x256 y := by
  have h0 : (y 0).val < 1 := (y 0).isLt
  have h2 : (y 2).val < 64 := (y 2).isLt
  refine Eq.trans ?_ (cast_pair 256 _ _ y).symm
  unfold st9 P
  simp only [Rect.emb_apply]
  have e0 : b + 1 * (y 0).val = b := by omega
  have e2 : 64 * k + 1 * (y 2).val = 64 * k + (y 2).val := by omega
  show (if 6 * (b + 1 * (y 0).val) + (64 * k + 1 * (y 2).val) / 64 < 6 * b + k + 1 then _ else _) = _
  rw [if_pos (by omega)]
  refine I.p_congr (show b + 1 * (y 0).val = b from e0) (show (64 * k + 1 * (y 2).val) / 64 = k by omega) ?_
  refine congrArg₂ ix2 (Fin.ext ?_) (Fin.ext ?_)
  · show (64 * k + 1 * (y 2).val) % 64 = (y 2).val; omega
  · show 0 + 1 * (y 3).val = (y 3).val; omega

theorem st9_out (X : Vec F S6x1x384x256 .f32) (x : S6x1x384x256.Idx)
    (h : ∀ y ∈ (Finset.univ : Finset S1x1x64x256.Idx), (Rect.unit (s := S6x1x384x256) ![b, 0, 64 * k, 0] S1x1x64x256.size (inbP b k hb hk)).emb y ≠ x) :
    I.st9 (6 * b + k + 1) X x = I.st9 (6 * b + k) X x := by
  unfold st9
  have h0 : (x 0).val < 6 := (x 0).isLt
  have h1 : (x 1).val < 1 := (x 1).isLt
  have h2 : (x 2).val < 384 := (x 2).isLt
  by_cases hc : 6 * (x 0).val + (x 2).val / 64 = 6 * b + k
  · refine absurd ?_ (h (ix4 (0 : Fin 1) (0 : Fin 1) (⟨(x 2).val % 64, Nat.mod_lt _ (by decide)⟩ : Fin 64) (⟨(x 3).val, (x 3).isLt⟩ : Fin 256)) (Finset.mem_univ _))
    funext a; apply Fin.ext; rw [Rect.emb_apply]
    fin_cases a
    · show b + 1 * 0 = (x 0).val; omega
    · show 0 + 1 * 0 = (x 1).val; omega
    · show 64 * k + 1 * ((x 2).val % 64) = (x 2).val; omega
    · show 0 + 1 * (x 3).val = (x 3).val; omega
  · by_cases hl : 6 * (x 0).val + (x 2).val / 64 < 6 * b + k
    · rw [if_pos hl, if_pos (by omega)]
    · rw [if_neg hl, if_neg (by omega)]

theorem st11_in (h : ℕ) (hh : h < 2) (X : Vec F S6x1x384x256 .i8) (y : S1x1x64x128.Idx) :
    I.st11 (12 * b + 2 * k + h + 1) X ((Rect.unit (s := S6x1x384x256) ![b, 0, 64 * k, 128 * h] S1x1x64x128.size (inbC b k h hb hk hh)).emb y)
      = shapeCast (α := BitVec 8) S1x1x64x128 (I.code b k hb hk h) shapeCasts_S64x128_S1x1x64x128 y := by
  have h0 : (y 0).val < 1 := (y 0).isLt
  have h2 : (y 2).val < 64 := (y 2).isLt
  have h3 : (y 3).val < 128 := (y 3).isLt
  refine Eq.trans ?_ (cast_pair 128 _ _ y).symm
  unfold st11 C
  simp only [Rect.emb_apply]
  show (if 12 * (b + 1 * (y 0).val) + 2 * ((64 * k + 1 * (y 2).val) / 64) + (128 * h + 1 * (y 3).val) / 128 < 12 * b + 2 * k + h + 1 then _ else _) = _
  rw [if_pos (by omega)]
  refine I.code_congr (show b + 1 * (y 0).val = b by omega) (show (64 * k + 1 * (y 2).val) / 64 = k by omega)
    (show (128 * h + 1 * (y 3).val) / 128 = h by omega) ?_
  refine congrArg₂ ix2 (Fin.ext ?_) (Fin.ext ?_)
  · show (64 * k + 1 * (y 2).val) % 64 = (y 2).val; omega
  · show (128 * h + 1 * (y 3).val) % 128 = (y 3).val; omega

theorem st11_out (h : ℕ) (hh : h < 2) (X : Vec F S6x1x384x256 .i8) (x : S6x1x384x256.Idx)
    (hx : ∀ y ∈ (Finset.univ : Finset S1x1x64x128.Idx), (Rect.unit (s := S6x1x384x256) ![b, 0, 64 * k, 128 * h] S1x1x64x128.size (inbC b k h hb hk hh)).emb y ≠ x) :
    I.st11 (12 * b + 2 * k + h + 1) X x = I.st11 (12 * b + 2 * k + h) X x := by
  unfold st11
  have h0 : (x 0).val < 6 := (x 0).isLt
  have h1 : (x 1).val < 1 := (x 1).isLt
  have h2 : (x 2).val < 384 := (x 2).isLt
  have h3 : (x 3).val < 256 := (x 3).isLt
  by_cases hc : 12 * (x 0).val + 2 * ((x 2).val / 64) + (x 3).val / 128 = 12 * b + 2 * k + h
  · refine absurd ?_ (hx (ix4 (0 : Fin 1) (0 : Fin 1) (⟨(x 2).val % 64, Nat.mod_lt _ (by decide)⟩ : Fin 64) (⟨(x 3).val % 128, Nat.mod_lt _ (by decide)⟩ : Fin 128)) (Finset.mem_univ _))
    funext a; apply Fin.ext; rw [Rect.emb_apply]
    fin_cases a
    · show b + 1 * 0 = (x 0).val; omega
    · show 0 + 1 * 0 = (x 1).val; omega
    · show 64 * k + 1 * ((x 2).val % 64) = (x 2).val; omega
    · show 128 * h + 1 * ((x 3).val % 128) = (x 3).val; omega
  · by_cases hl : 12 * (x 0).val + 2 * ((x 2).val / 64) + (x 3).val / 128 < 12 * b + 2 * k + h
    · rw [if_pos hl, if_pos (by omega)]
    · rw [if_neg hl, if_neg (by omega)]

/-- The mask holds the layer's own lane. -/
theorem mem_mask (y : S64x128.Idx) : y ∈ IVec.on (maskT I.a) ↔ I.own (y 1).val := by
  unfold IVec.on maskT onL lane own
  rw [shapeCast_self]
  simp only [Finset.mem_filter, Finset.mem_univ, true_and]
  show cmpi .eq _ _ y = 1#1 ↔ _
  have : iota .tc S64x128 32 [1] iota_S64x128_d1_w32 y = BitVec.ofNat 32 (y 1).val := iota_single_apply _ _ _ _ _ _
  unfold cmpi
  show Scalar.cmpi .eq (iota .tc S64x128 32 [1] iota_S64x128_d1_w32 y) (broadcast S64x128 I.a y) = 1#1 ↔ _
  rw [this]
  show Scalar.cmpi .eq (BitVec.ofNat 32 (y 1).val) I.a = 1#1 ↔ _
  unfold Scalar.cmpi
  by_cases hc : BitVec.ofNat 32 (y 1).val = I.a
  · simp [IntOp.cmpi, hc]
  · simp only [IntOp.cmpi, hc, iff_false]
    rw [beq_eq_false_iff_ne.mpr hc]; decide

theorem wide_apply (v : FVec F S64x1 .f32) (y : S64x128.Idx) : wide v y = v (ix2 (y 0) (0 : Fin 1)) := by
  unfold wide
  rw [shapeCast_self, shapeCast_self]
  refine broadcastTo_apply _ _ y _ ?_
  intro a; fin_cases a <;> rfl

theorem st14_in (X : Vec F S2304x128 .f32) (y : S64x128.Idx) (hy : y ∈ IVec.on (maskT I.a)) :
    I.st14 (6 * b + k + 1) X ((Rect.unit (s := S2304x128) ![384 * b + 64 * k, 0] S64x128.size (inbRow b k hb hk)).emb y) = wide (I.rms b k hb hk) y := by
  have h0 : (y 0).val < 64 := (y 0).isLt
  have h1 : (y 1).val < 128 := (y 1).isLt
  rw [mem_mask] at hy
  rw [wide_apply]
  unfold st14 RMS
  simp only [Rect.emb_apply]
  show (if (384 * b + 64 * k + 1 * (y 0).val) / 64 < 6 * b + k + 1 ∧ I.own (0 + 1 * (y 1).val) then _ else _) = _
  rw [show 0 + 1 * (y 1).val = (y 1).val by omega, if_pos ⟨by omega, hy⟩]
  refine I.rms_congr (show (384 * b + 64 * k + 1 * (y 0).val) / 384 = b by omega) (show (384 * b + 64 * k + 1 * (y 0).val) % 384 / 64 = k by omega) ?_
  refine congrArg₂ ix2 (Fin.ext ?_) rfl
  show (384 * b + 64 * k + 1 * (y 0).val) % 64 = (y 0).val; omega

theorem st14_out (X : Vec F S2304x128 .f32) (x : S2304x128.Idx)
    (h : ∀ y ∈ IVec.on (maskT I.a), (Rect.unit (s := S2304x128) ![384 * b + 64 * k, 0] S64x128.size (inbRow b k hb hk)).emb y ≠ x) :
    I.st14 (6 * b + k + 1) X x = I.st14 (6 * b + k) X x := by
  unfold st14
  have h0 : (x 0).val < 2304 := (x 0).isLt
  by_cases ho : I.own (x 1).val
  swap; · rw [if_neg (fun h => ho h.2), if_neg (fun h => ho h.2)]
  by_cases hc : (x 0).val / 64 = 6 * b + k
  · refine absurd ?_ (h (ix2 (⟨(x 0).val % 64, Nat.mod_lt _ (by decide)⟩ : Fin 64) (⟨(x 1).val, (x 1).isLt⟩ : Fin 128)) ((I.mem_mask _).mpr ho))
    funext a; apply Fin.ext; rw [Rect.emb_apply]
    fin_cases a
    · show 384 * b + 64 * k + 1 * ((x 0).val % 64) = (x 0).val; omega
    · show 0 + 1 * (x 1).val = (x 1).val; omega
  · by_cases hl : (x 0).val / 64 < 6 * b + k
    · rw [if_pos ⟨by omega, ho⟩, if_pos ⟨hl, ho⟩]
    · rw [if_neg (fun h => by have := h.1; omega), if_neg (fun h => hl h.1)]

theorem st15_in (X : Vec F S2304x128 .f32) (y : S64x128.Idx) (hy : y ∈ IVec.on (maskT I.a)) :
    I.st15 (6 * b + k + 1) X ((Rect.unit (s := S2304x128) ![384 * b + 64 * k, 0] S64x128.size (inbRow b k hb hk)).emb y) = wide (I.sc b k hb hk) y := by
  have h0 : (y 0).val < 64 := (y 0).isLt
  have h1 : (y 1).val < 128 := (y 1).isLt
  rw [mem_mask] at hy
  rw [wide_apply]
  unfold st15 SC
  simp only [Rect.emb_apply]
  show (if (384 * b + 64 * k + 1 * (y 0).val) / 64 < 6 * b + k + 1 ∧ I.own (0 + 1 * (y 1).val) then _ else _) = _
  rw [show 0 + 1 * (y 1).val = (y 1).val by omega, if_pos ⟨by omega, hy⟩]
  refine I.sc_congr (show (384 * b + 64 * k + 1 * (y 0).val) / 384 = b by omega) (show (384 * b + 64 * k + 1 * (y 0).val) % 384 / 64 = k by omega) ?_
  refine congrArg₂ ix2 (Fin.ext ?_) rfl
  show (384 * b + 64 * k + 1 * (y 0).val) % 64 = (y 0).val; omega

theorem st15_out (X : Vec F S2304x128 .f32) (x : S2304x128.Idx)
    (h : ∀ y ∈ IVec.on (maskT I.a), (Rect.unit (s := S2304x128) ![384 * b + 64 * k, 0] S64x128.size (inbRow b k hb hk)).emb y ≠ x) :
    I.st15 (6 * b + k + 1) X x = I.st15 (6 * b + k) X x := by
  unfold st15
  have h0 : (x 0).val < 2304 := (x 0).isLt
  by_cases ho : I.own (x 1).val
  swap; · rw [if_neg (fun h => ho h.2), if_neg (fun h => ho h.2)]
  by_cases hc : (x 0).val / 64 = 6 * b + k
  · refine absurd ?_ (h (ix2 (⟨(x 0).val % 64, Nat.mod_lt _ (by decide)⟩ : Fin 64) (⟨(x 1).val, (x 1).isLt⟩ : Fin 128)) ((I.mem_mask _).mpr ho))
    funext a; apply Fin.ext; rw [Rect.emb_apply]
    fin_cases a
    · show 384 * b + 64 * k + 1 * ((x 0).val % 64) = (x 0).val; omega
    · show 0 + 1 * (x 1).val = (x 1).val; omega
  · by_cases hl : (x 0).val / 64 < 6 * b + k
    · rw [if_pos ⟨by omega, ho⟩, if_pos ⟨hl, ho⟩]
    · rw [if_neg (fun h => by have := h.1; omega), if_neg (fun h => hl h.1)]

end In

end Cert.KernelIdeal.Hand

end
-- ==== Proof.Tile.lean ====
/- One tile's program takes the four buffers from the state after some tiles to the state after one more. -/
module

public import proofs.«01_k».proof.Proof.Rules
public import proofs.«01_k».proof.Proof.Values

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- What a tile holds: the tables that it reads, and the four buffers after `n` tiles. -/
def held (c : Dev nD) (I : In F) (arg2 : Memref sig .tc .vmem S2304x128 .f32) (arg6 : Memref sig .tc .vmem S2304x128 .i32)
    (arg7 arg8 : Memref sig .tc .vmem S2304x128 .f32) (arg9 : Memref sig .tc .vmem S6x1x384x256 .f32) (arg11 : Memref sig .tc .vmem S6x1x384x256 .i8)
    (arg14 arg15 : Memref sig .tc .vmem S2304x128 .f32) (X9 : Vec F S6x1x384x256 .f32) (X11 : Vec F S6x1x384x256 .i8) (X14 X15 : Vec F S2304x128 .f32)
    (n : ℕ) : sProp 𝕄 :=
  iprop(owns (c : Thread nD τ) arg2 fullShare I.E2 ∗ owns (c : Thread nD τ) arg6 fullShare I.W6 ∗ owns (c : Thread nD τ) arg7 fullShare I.S7
    ∗ owns (c : Thread nD τ) arg8 fullShare I.M8 ∗ owns (c : Thread nD τ) arg9 fullShare (I.st9 n X9) ∗ owns (c : Thread nD τ) arg11 fullShare (I.st11 (2 * n) X11)
    ∗ owns (c : Thread nD τ) arg14 fullShare (I.st14 n X14) ∗ owns (c : Thread nD τ) arg15 fullShare (I.st15 n X15))

set_option maxHeartbeats 8000000 in
/-- One tile. -/
theorem wp_tile (c : Dev nD) (I : In F) (b k : ℕ) (hb : b < 6) (hk : k < 6) (arg2 : Memref sig .tc .vmem S2304x128 .f32) (arg6 : Memref sig .tc .vmem S2304x128 .i32)
    (arg7 arg8 : Memref sig .tc .vmem S2304x128 .f32) (arg9 : Memref sig .tc .vmem S6x1x384x256 .f32) (arg11 : Memref sig .tc .vmem S6x1x384x256 .i8) (harg11 : arg11.IsWhole)
    (arg14 arg15 : Memref sig .tc .vmem S2304x128 .f32) (X9 : Vec F S6x1x384x256 .f32) (X11 : Vec F S6x1x384x256 .i8) (X14 X15 : Vec F S2304x128 .f32)
    (K : PUnit → Prog (TpuEff nD τ sig (Elt F) Λ₀ .tc) PUnit) (Q : PUnit → sProp 𝕄) :
    held c I arg2 arg6 arg7 arg8 arg9 arg11 arg14 arg15 X9 X11 X14 X15 (6 * b + k)
      ⊢ iprop((held c I arg2 arg6 arg7 arg8 arg9 arg11 arg14 arg15 X9 X11 X14 X15 (6 * b + k + 1) -∗ wpk c (K ⟨⟩) Q)
        -∗ wpk c (tile b k hb hk I.a I.ws I.g (I.acc b hb) arg2 arg6 arg7 arg8 arg9 arg11 harg11 arg14 arg15 >>= K) Q) := by
  unfold held tile
  rw [show 2 * (6 * b + k) = 12 * b + 2 * k + 0 by ring, show 2 * (6 * b + k + 1) = 12 * b + 2 * k + 1 + 1 by ring]
  simp only [Prog.bind_lift, Prog.bind_op]
  iintro ⟨H2, H6, H7, H8, H9, H11, H14, H15⟩
  iintro HK
  iapply (wp_ld c arg2) $$ H2
  iintro H2
  iapply (wp_ld c arg9) $$ H9
  iintro H9
  iapply (wp_st c arg9 _ (shapeCast S1x1x64x256 (I.p b k hb hk) shapeCasts_S64x256_S1x1x64x256) _ _ _ _ (I.st9 (6 * b + k + 1) X9) (fun y _ => I.st9_in b k hb hk X9 y) (fun x hx => I.st9_out b k hb hk X9 x hx)) $$ H9
  iintro H9
  iapply (wp_ld c arg14) $$ H14
  iintro H14
  iapply (wp_st c arg14 _ (wide (I.rms b k hb hk)) _ _ _ _ (I.st14 (6 * b + k + 1) X14) (fun y hy => I.st14_in b k hb hk X14 y hy) (fun x hx => I.st14_out b k hb hk X14 x hx)) $$ H14
  iintro H14
  iapply (wp_ld c arg6) $$ H6
  iintro H6
  iapply (wp_ld c arg7) $$ H7
  iintro H7
  iapply (wp_ld c arg8) $$ H8
  iintro H8
  iapply (wp_ld c arg7) $$ H7
  iintro H7
  iapply (wp_ld c arg8) $$ H8
  iintro H8
  iapply (wp_ld c arg15) $$ H15
  iintro H15
  iapply (wp_st c arg15 _ (wide (I.sc b k hb hk)) _ _ _ _ (I.st15 (6 * b + k + 1) X15) (fun y hy => I.st15_in b k hb hk X15 y hy) (fun x hx => I.st15_out b k hb hk X15 x hx)) $$ H15
  iintro H15
  iapply (wp_ld c arg11) $$ H11
  iintro H11
  iapply (wp_st c arg11 _ (shapeCast (α := BitVec 8) S1x1x64x128 (codesT (I.c0 b k hb hk) (I.sc b k hb hk)) shapeCasts_S64x128_S1x1x64x128) _ _ _ _ (I.st11 (12 * b + 2 * k + 0 + 1) X11) (fun y _ => I.st11_in b k hb hk 0 (by decide) X11 y) (fun x hx => I.st11_out b k hb hk 0 (by decide) X11 x hx)) $$ H11
  iintro H11
  iapply (wp_ld c arg11) $$ H11
  iintro H11
  iapply (wp_st c arg11 _ (shapeCast (α := BitVec 8) S1x1x64x128 (codesT (I.c1 b k hb hk) (I.sc b k hb hk)) shapeCasts_S64x128_S1x1x64x128) _ _ _ _ (I.st11 (12 * b + 2 * k + 1 + 1) X11) (fun y _ => I.st11_in b k hb hk 1 (by decide) X11 y) (fun x hx => I.st11_out b k hb hk 1 (by decide) X11 x hx)) $$ H11
  iintro H11
  iapply HK
  isplitl [H2]; · iexact H2
  isplitl [H6]; · iexact H6
  isplitl [H7]; · iexact H7
  isplitl [H8]; · iexact H8
  isplitl [H9]; · iexact H9
  isplitl [H11]; · iexact H11
  isplitl [H14]; · iexact H14
  iexact H15

end Cert.KernelIdeal.Hand

end
-- ==== Proof.Rows.lean ====
/- The programs of a batch row, of the codes' conversion and of the two transposed results, on buffers owned at known values. -/
module

public import proofs.«01_k».proof.Proof.Tile

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 2000000 in
/-- One batch row: six tiles. -/
theorem wp_row (c : Dev nD) (I : In F) (b : ℕ) (hb : b < 6) (arg2 : Memref sig .tc .vmem S2304x128 .f32) (arg6 : Memref sig .tc .vmem S2304x128 .i32)
    (arg7 arg8 : Memref sig .tc .vmem S2304x128 .f32) (arg9 : Memref sig .tc .vmem S6x1x384x256 .f32) (arg11 : Memref sig .tc .vmem S6x1x384x256 .i8) (harg11 : arg11.IsWhole)
    (arg13 : Memref sig .tc .vmem S2304x2048 .bf16)
    (arg14 arg15 : Memref sig .tc .vmem S2304x128 .f32) (X9 : Vec F S6x1x384x256 .f32) (X11 : Vec F S6x1x384x256 .i8) (X14 X15 : Vec F S2304x128 .f32)
    (K : PUnit → Prog (TpuEff nD τ sig (Elt F) Λ₀ .tc) PUnit) (Q : PUnit → sProp 𝕄) :
    iprop(owns (c : Thread nD τ) arg13 fullShare I.EB ∗ held c I arg2 arg6 arg7 arg8 arg9 arg11 arg14 arg15 X9 X11 X14 X15 (6 * b))
      ⊢ iprop((iprop(owns (c : Thread nD τ) arg13 fullShare I.EB ∗ held c I arg2 arg6 arg7 arg8 arg9 arg11 arg14 arg15 X9 X11 X14 X15 (6 * (b + 1))) -∗ wpk c (K ⟨⟩) Q)
        -∗ wpk c (row b hb I.a I.w I.ws I.g arg2 arg6 arg7 arg8 arg9 arg11 harg11 arg13 arg14 arg15 >>= K) Q) := by
  unfold row
  simp only [Prog.bind_lift, Prog.bind_op, bind_assoc]
  iintro ⟨H13, H⟩
  iintro HK
  iapply (wp_ld c arg13) $$ H13
  iintro H13
  iapply (wp_tile c I b 0 hb _ arg2 arg6 arg7 arg8 arg9 arg11 harg11 arg14 arg15 X9 X11 X14 X15) $$ H
  iintro H
  iapply (wp_tile c I b 1 hb _ arg2 arg6 arg7 arg8 arg9 arg11 harg11 arg14 arg15 X9 X11 X14 X15) $$ H
  iintro H
  iapply (wp_tile c I b 2 hb _ arg2 arg6 arg7 arg8 arg9 arg11 harg11 arg14 arg15 X9 X11 X14 X15) $$ H
  iintro H
  iapply (wp_tile c I b 3 hb _ arg2 arg6 arg7 arg8 arg9 arg11 harg11 arg14 arg15 X9 X11 X14 X15) $$ H
  iintro H
  iapply (wp_tile c I b 4 hb _ arg2 arg6 arg7 arg8 arg9 arg11 harg11 arg14 arg15 X9 X11 X14 X15) $$ H
  iintro H
  iapply (wp_tile c I b 5 hb _ arg2 arg6 arg7 arg8 arg9 arg11 harg11 arg14 arg15 X9 X11 X14 X15) $$ H
  iintro H
  iapply HK
  isplitl [H13]; · iexact H13
  iexact H

/-! ## The codes as bf16 -/

/-- The scratch of codes after `n` rows' conversion. -/
def stE (E1 : Vec F S2304x2048 .i8) (n : ℕ) (X : Vec F S2304x2048 .bf16) : Vec F S2304x2048 .bf16 :=
  fun x => if (x 0).val / 384 < n then sitofp .bf16 (E1 : IVec S2304x2048 8) x else X x

theorem wp_inOne (c : Dev nD) (b : ℕ) (hb : b < 6) (arg1 : Memref sig .tc .vmem S2304x2048 .i8) (arg13 : Memref sig .tc .vmem S2304x2048 .bf16) (harg13 : arg13.IsWhole)
    (E1 : Vec F S2304x2048 .i8) (X : Vec F S2304x2048 .bf16) (K : PUnit → Prog (TpuEff nD τ sig (Elt F) Λ₀ .tc) PUnit) (Q : PUnit → sProp 𝕄) :
    iprop(owns (c : Thread nD τ) arg1 fullShare E1 ∗ owns (c : Thread nD τ) arg13 fullShare (stE E1 b X))
      ⊢ iprop((iprop(owns (c : Thread nD τ) arg1 fullShare E1 ∗ owns (c : Thread nD τ) arg13 fullShare (stE E1 (b + 1) X)) -∗ wpk c (K ⟨⟩) Q)
        -∗ wpk c (inOne b hb arg1 arg13 harg13 >>= K) Q) := by
  unfold inOne
  simp only [Prog.bind_lift, Prog.bind_op, bind_assoc]
  iintro ⟨H1, H13⟩
  iintro HK
  iapply (wp_ld c arg1) $$ H1
  iintro H1
  iapply (wp_ld c arg13) $$ H13
  iintro H13
  iapply (wp_st c arg13 _ (eT (fun y => E1 ((Rect.unit (s := S2304x2048) ![384 * b, 0] S384x2048.size (inbE b hb)).emb y))) _ _ _ _ (stE E1 (b + 1) X) ?_ ?_) $$ H13
  · intro y _
    have h0 : (y 0).val < 384 := (y 0).isLt
    unfold stE eT
    rw [shapeCast_self]
    simp only [Rect.emb_apply]
    show (if (384 * b + 1 * (y 0).val) / 384 < b + 1 then _ else _) = _
    rw [if_pos (by omega)]
    rfl
  · intro x hx
    have h0 : (x 0).val < 2304 := (x 0).isLt
    unfold stE
    by_cases hc : (x 0).val / 384 = b
    · refine absurd ?_ (hx (ix2 (⟨(x 0).val % 384, Nat.mod_lt _ (by decide)⟩ : Fin 384) (⟨(x 1).val, (x 1).isLt⟩ : Fin 2048)) (Finset.mem_univ _))
      funext a; apply Fin.ext; rw [Rect.emb_apply]
      fin_cases a
      · show 384 * b + 1 * ((x 0).val % 384) = (x 0).val; omega
      · show 0 + 1 * (x 1).val = (x 1).val; omega
    · by_cases hl : (x 0).val / 384 < b
      · rw [if_pos hl, if_pos (by omega)]
      · rw [if_neg hl, if_neg (by omega)]
  iintro H13
  iapply HK
  isplitl [H1]; · iexact H1
  iexact H13

/-- All codes: whatever the scratch held, it holds the codes as bf16. -/
theorem wp_inAll (c : Dev nD) (arg1 : Memref sig .tc .vmem S2304x2048 .i8) (arg13 : Memref sig .tc .vmem S2304x2048 .bf16) (harg13 : arg13.IsWhole)
    (E1 : Vec F S2304x2048 .i8) (X : Vec F S2304x2048 .bf16) (K : PUnit → Prog (TpuEff nD τ sig (Elt F) Λ₀ .tc) PUnit) (Q : PUnit → sProp 𝕄) :
    iprop(owns (c : Thread nD τ) arg1 fullShare E1 ∗ owns (c : Thread nD τ) arg13 fullShare X)
      ⊢ iprop((iprop(owns (c : Thread nD τ) arg1 fullShare E1 ∗ owns (c : Thread nD τ) arg13 fullShare (sitofp .bf16 (E1 : IVec S2304x2048 8))) -∗ wpk c (K ⟨⟩) Q)
        -∗ wpk c (inAll arg1 arg13 harg13 >>= K) Q) := by
  have e0 : stE E1 0 X = X := funext fun x => if_neg (Nat.not_lt_zero _)
  have e6 : stE E1 (5 + 1) X = sitofp .bf16 (E1 : IVec S2304x2048 8) := funext fun x => if_pos (Nat.div_lt_of_lt_mul (x 0).isLt)
  unfold inAll
  simp only [bind_assoc]
  rw [← e6]
  iintro ⟨H1, H13⟩
  iintro HK
  iapply (wp_inOne c 0 _ arg1 arg13 harg13 E1 X) $$ [H1 H13]
  · rw [e0]; isplitl [H1]; · iexact H1
    iexact H13
  iintro H
  iapply (wp_inOne c 1 _ arg1 arg13 harg13 E1 X) $$ H
  iintro H
  iapply (wp_inOne c 2 _ arg1 arg13 harg13 E1 X) $$ H
  iintro H
  iapply (wp_inOne c 3 _ arg1 arg13 harg13 E1 X) $$ H
  iintro H
  iapply (wp_inOne c 4 _ arg1 arg13 harg13 E1 X) $$ H
  iintro H
  iapply (wp_inOne c 5 _ arg1 arg13 harg13 E1 X) $$ H
  iintro H
  iapply HK
  iexact H

/-! ## The transposed results -/

/-- An accumulator transposed: row `b`'s tokens of a layer. -/
def outF (A : Vec F S2304x128 .f32) (x : S6x30x384.Idx) : F .f32 :=
  A (ix2 (⟨384 * (x 0).val + (x 2).val, by have h0 : (x 0).val < 6 := (x 0).isLt; have h2 : (x 2).val < 384 := (x 2).isLt; omega⟩ : Fin 2304)
    (⟨(x 1).val, by have h1 : (x 1).val < 30 := (x 1).isLt; omega⟩ : Fin 128))

/-- A result after `n` blocks. -/
def stO (A : Vec F S2304x128 .f32) (n : ℕ) (X : Vec F S6x30x384 .f32) : Vec F S6x30x384 .f32 :=
  fun x => if 3 * (x 0).val + (x 2).val / 128 < n then outF A x else X x

theorem outT_apply (x : Vec F S128x128 .f32) (y : S1x30x128.Idx) :
    outT x y = x (ix2 (⟨(y 2).val, (y 2).isLt⟩ : Fin 128) (⟨(y 1).val, by have h1 : (y 1).val < 30 := (y 1).isLt; omega⟩ : Fin 128)) := by
  unfold outT
  have h0 : (y 0).val < 1 := (y 0).isLt
  rw [shapeCast_apply _ _ y (ix2 (⟨(y 1).val, (y 1).isLt⟩ : Fin 30) (⟨(y 2).val, (y 2).isLt⟩ : Fin 128)) (by
    simp only [Shape.rowMajor_val_two, Shape.rowMajor_val_three, ix2_0, ix2_1]
    show (y 1).val * 128 + (y 2).val = ((y 0).val * 30 + (y 1).val) * 128 + (y 2).val
    omega)]
  unfold extractStridedSlice transpose
  refine congrArg x (funext fun a => Fin.ext ?_)
  fin_cases a
  · show 0 + (y 2).val = (y 2).val; omega
  · show 0 + (y 1).val = (y 1).val; omega

theorem wp_outOne (c : Dev nD) (b k : ℕ) (hb : b < 6) (hk : k < 3) (src : Memref sig .tc .vmem S2304x128 .f32) (dst : Memref sig .tc .vmem S6x30x384 .f32)
    (A : Vec F S2304x128 .f32) (X : Vec F S6x30x384 .f32) (K : PUnit → Prog (TpuEff nD τ sig (Elt F) Λ₀ .tc) PUnit) (Q : PUnit → sProp 𝕄) :
    iprop(owns (c : Thread nD τ) src fullShare A ∗ owns (c : Thread nD τ) dst fullShare (stO A (3 * b + k) X))
      ⊢ iprop((iprop(owns (c : Thread nD τ) src fullShare A ∗ owns (c : Thread nD τ) dst fullShare (stO A (3 * b + k + 1) X)) -∗ wpk c (K ⟨⟩) Q)
        -∗ wpk c (outOne b k hb hk src dst >>= K) Q) := by
  unfold outOne
  simp only [Prog.bind_lift, Prog.bind_op, bind_assoc]
  iintro ⟨H1, H13⟩
  iintro HK
  iapply (wp_ld c src) $$ H1
  iintro H1
  iapply (wp_ld c dst) $$ H13
  iintro H13
  iapply (wp_st c dst _ (outT (fun y => A ((Rect.unit (s := S2304x128) ![384 * b + 128 * k, 0] S128x128.size (inbAcc b k hb hk)).emb y))) _ _ _ _ (stO A (3 * b + k + 1) X) ?_ ?_) $$ H13
  · intro y _
    have h0 : (y 0).val < 1 := (y 0).isLt
    have h1 : (y 1).val < 30 := (y 1).isLt
    have h2 : (y 2).val < 128 := (y 2).isLt
    rw [outT_apply]
    unfold stO outF
    show (if 3 * (b + 1 * (y 0).val) + (128 * k + 1 * (y 2).val) / 128 < 3 * b + k + 1 then _ else _) = _
    rw [if_pos (by omega)]
    refine congrArg A (funext fun a => Fin.ext ?_)
    fin_cases a
    · show 384 * (b + 1 * (y 0).val) + (128 * k + 1 * (y 2).val) = 384 * b + 128 * k + 1 * (y 2).val; omega
    · show 0 + 1 * (y 1).val = 0 + 1 * (y 1).val; rfl
  · intro x hx
    have h0 : (x 0).val < 6 := (x 0).isLt
    have h2 : (x 2).val < 384 := (x 2).isLt
    unfold stO
    by_cases hc : 3 * (x 0).val + (x 2).val / 128 = 3 * b + k
    · refine absurd ?_ (hx (ix3 (0 : Fin 1) (⟨(x 1).val, (x 1).isLt⟩ : Fin 30) (⟨(x 2).val % 128, Nat.mod_lt _ (by decide)⟩ : Fin 128)) (Finset.mem_univ _))
      funext a; apply Fin.ext; rw [Rect.emb_apply]
      fin_cases a
      · show b + 1 * 0 = (x 0).val; omega
      · show 0 + 1 * (x 1).val = (x 1).val; omega
      · show 128 * k + 1 * ((x 2).val % 128) = (x 2).val; omega
    · by_cases hl : 3 * (x 0).val + (x 2).val / 128 < 3 * b + k
      · rw [if_pos hl, if_pos (by omega)]
      · rw [if_neg hl, if_neg (by omega)]
  iintro H13
  iapply HK
  isplitl [H1]; · iexact H1
  iexact H13

/-- What the two transposed results hold while they are written. -/
def heldO (c : Dev nD) (arg10 arg12 : Memref sig .tc .vmem S6x30x384 .f32) (arg14 arg15 : Memref sig .tc .vmem S2304x128 .f32)
    (A14 A15 : Vec F S2304x128 .f32) (X10 X12 : Vec F S6x30x384 .f32) (n : ℕ) : sProp 𝕄 :=
  iprop(iprop(owns (c : Thread nD τ) arg14 fullShare A14 ∗ owns (c : Thread nD τ) arg10 fullShare (stO A14 n X10))
    ∗ iprop(owns (c : Thread nD τ) arg15 fullShare A15 ∗ owns (c : Thread nD τ) arg12 fullShare (stO A15 n X12)))

set_option maxHeartbeats 2000000 in
/-- One batch row of both results. -/
theorem wp_outRow (c : Dev nD) (b : ℕ) (hb : b < 6) (arg10 arg12 : Memref sig .tc .vmem S6x30x384 .f32) (arg14 arg15 : Memref sig .tc .vmem S2304x128 .f32)
    (A14 A15 : Vec F S2304x128 .f32) (X10 X12 : Vec F S6x30x384 .f32) (K : PUnit → Prog (TpuEff nD τ sig (Elt F) Λ₀ .tc) PUnit) (Q : PUnit → sProp 𝕄) :
    heldO c arg10 arg12 arg14 arg15 A14 A15 X10 X12 (3 * b)
      ⊢ iprop((heldO c arg10 arg12 arg14 arg15 A14 A15 X10 X12 (3 * (b + 1)) -∗ wpk c (K ⟨⟩) Q)
        -∗ wpk c (outRow b hb arg10 arg12 arg14 arg15 >>= K) Q) := by
  unfold heldO outRow
  simp only [bind_assoc]
  iintro ⟨HA, HB⟩
  iintro HK
  iapply (wp_outOne c b 0 hb _ arg14 arg10 A14 X10) $$ HA
  iintro HA
  iapply (wp_outOne c b 0 hb _ arg15 arg12 A15 X12) $$ HB
  iintro HB
  iapply (wp_outOne c b 1 hb _ arg14 arg10 A14 X10) $$ HA
  iintro HA
  iapply (wp_outOne c b 1 hb _ arg15 arg12 A15 X12) $$ HB
  iintro HB
  iapply (wp_outOne c b 2 hb _ arg14 arg10 A14 X10) $$ HA
  iintro HA
  iapply (wp_outOne c b 2 hb _ arg15 arg12 A15 X12) $$ HB
  iintro HB
  iapply HK
  isplitl [HA]; · iexact HA
  iexact HB

/-- Both results whole. -/
theorem wp_outAll (c : Dev nD) (arg10 arg12 : Memref sig .tc .vmem S6x30x384 .f32) (arg14 arg15 : Memref sig .tc .vmem S2304x128 .f32)
    (A14 A15 : Vec F S2304x128 .f32) (X10 X12 : Vec F S6x30x384 .f32) (K : PUnit → Prog (TpuEff nD τ sig (Elt F) Λ₀ .tc) PUnit) (Q : PUnit → sProp 𝕄) :
    iprop(owns (c : Thread nD τ) arg14 fullShare A14 ∗ owns (c : Thread nD τ) arg10 fullShare X10 ∗ owns (c : Thread nD τ) arg15 fullShare A15 ∗ owns (c : Thread nD τ) arg12 fullShare X12)
      ⊢ iprop((iprop(owns (c : Thread nD τ) arg14 fullShare A14 ∗ owns (c : Thread nD τ) arg10 fullShare (outF A14) ∗ owns (c : Thread nD τ) arg15 fullShare A15
          ∗ owns (c : Thread nD τ) arg12 fullShare (outF A15)) -∗ wpk c (K ⟨⟩) Q)
        -∗ wpk c (outAll arg10 arg12 arg14 arg15 >>= K) Q) := by
  have e0 : ∀ (A : Vec F S2304x128 .f32) X, stO A (3 * 0) X = X := fun A X => funext fun x => if_neg (Nat.not_lt_zero _)
  have e6 : ∀ (A : Vec F S2304x128 .f32) X, stO A (3 * (5 + 1)) X = outF A := fun A X => funext fun x => if_pos (by
    have h0 : (x 0).val < 6 := (x 0).isLt
    have h2 : (x 2).val < 384 := (x 2).isLt
    omega)
  unfold outAll
  simp only [bind_assoc]
  rw [← e6 A14 X10, ← e6 A15 X12]
  iintro ⟨H14, H10, H15, H12⟩
  iintro HK
  iapply (wp_outRow c 0 _ arg10 arg12 arg14 arg15 A14 A15 X10 X12) $$ [H14 H10 H15 H12]
  · unfold heldO
    rw [e0 A14 X10, e0 A15 X12]
    isplitl [H14 H10]
    · isplitl [H14]; · iexact H14
      iexact H10
    isplitl [H15]; · iexact H15
    iexact H12
  iintro H
  iapply (wp_outRow c 1 _ arg10 arg12 arg14 arg15 A14 A15 X10 X12) $$ H
  iintro H
  iapply (wp_outRow c 2 _ arg10 arg12 arg14 arg15 A14 A15 X10 X12) $$ H
  iintro H
  iapply (wp_outRow c 3 _ arg10 arg12 arg14 arg15 A14 A15 X10 X12) $$ H
  iintro H
  iapply (wp_outRow c 4 _ arg10 arg12 arg14 arg15 A14 A15 X10 X12) $$ H
  iintro H
  iapply (wp_outRow c 5 _ arg10 arg12 arg14 arg15 A14 A15 X10 X12) $$ H
  unfold heldO
  iintro ⟨⟨H14, H10⟩, ⟨H15, H12⟩⟩
  iapply HK
  isplitl [H14]; · iexact H14
  isplitl [H10]; · iexact H10
  isplitl [H15]; · iexact H15
  iexact H12

end Cert.KernelIdeal.Hand

end
-- ==== Proof.Point.lean ====
/- One grid point: the printed body, from buffers owned at known values to the values that it leaves. -/
module

public import proofs.«01_k».proof.Proof.Body
public import proofs.«01_k».proof.Proof.Rows

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A program that has ended. -/
theorem wp_end (c : Dev nD) (Q : PUnit → sProp 𝕄) : Q ⟨⟩ ⊢ wpk (F := F) c (pure ⟨⟩) Q := by
  show Q ⟨⟩ ⊢ wp frame (wpE (defs₀ (F := F)) Variants.none (c : Thread nD τ) none) Set.univ (.ret ⟨⟩) Q
  rw [wp_ret]
  iintro H
  imodintro
  iexact H

/-- The values that the tiles of the point `i` read, from the blocks of the eight operands there. -/
def mkIn (i : grid0.Coords) (E1 : Vec F S2304x2048 .i8) (E2 : Vec F S2304x128 .f32) (W3 : Vec F S1x2048x256 .i8) (W4 : Vec F S30x256 .f32)
    (G : Vec F S1x256 .f32) (W6 : Vec F S2304x128 .i32) (S7 M8 : Vec F S2304x128 .f32) : In F where
  a := lay i
  w := wB (fun y => W3 ((Rect.unit (s := S1x2048x256) ![0, 0, 0] S1x2048x256.size inb_S1x2048x256_S1x2048x256_0_0_0).emb y))
  ws := wsP (fun y => W4 ((Rect.unit (s := S30x256) (k0_off1 i) S1x256.size (k0_off1_inb i)).emb y))
  g := gP (fun y => G ((Rect.unit (s := S1x256) ![0, 0] S1x256.size inb_S1x256_S1x256_0_0).emb y))
  EB := sitofp .bf16 (E1 : IVec S2304x2048 8)
  E2 := E2
  W6 := W6
  S7 := S7
  M8 := M8

/-- The point after the codes' conversion. -/
def tail (i : grid0.Coords) (arg2 : Memref sig .tc .vmem S2304x128 .f32)
    (arg3 : Memref sig .tc .vmem S1x2048x256 .i8) (arg4 : Memref sig .tc .vmem S30x256 .f32) (arg5 : Memref sig .tc .vmem S1x256 .f32)
    (arg6 : Memref sig .tc .vmem S2304x128 .i32) (arg7 arg8 : Memref sig .tc .vmem S2304x128 .f32)
    (arg9 : Memref sig .tc .vmem S6x1x384x256 .f32) (arg10 : Memref sig .tc .vmem S6x30x384 .f32)
    (arg11 : Memref sig .tc .vmem S6x1x384x256 .i8) (harg11 : arg11.IsWhole) (arg12 : Memref sig .tc .vmem S6x30x384 .f32)
    (arg13 : Memref sig .tc .vmem S2304x2048 .bf16) (arg14 arg15 : Memref sig .tc .vmem S2304x128 .f32) :
    Prog (TpuEff nD τ sig (Elt F) Λ₀ .tc) PUnit := do
  let v3 : Vec F S1x2048x256 .i8 ← Prog.lift (.load arg3 (Rect.unit (s := S1x2048x256) ![0, 0, 0] S1x2048x256.size inb_S1x2048x256_S1x2048x256_0_0_0).toLoadRect (View.loadsAt_vmem h_S1x2048x256))
  let v7 : Vec F S1x256 .f32 ← Prog.lift (.load arg4 (Rect.unit (s := S30x256) (k0_off1 i) S1x256.size (k0_off1_inb i)).toLoadRect (View.loadsAt_vmem h_S1x256))
  let v10 : Vec F S1x256 .f32 ← Prog.lift (.load arg5 (Rect.unit (s := S1x256) ![0, 0] S1x256.size inb_S1x256_S1x256_0_0).toLoadRect (View.loadsAt_vmem h_S1x256))
  row 0 (by decide) (lay i) (wB v3) (wsP v7) (gP v10) arg2 arg6 arg7 arg8 arg9 arg11 harg11 arg13 arg14 arg15
  row 1 (by decide) (lay i) (wB v3) (wsP v7) (gP v10) arg2 arg6 arg7 arg8 arg9 arg11 harg11 arg13 arg14 arg15
  row 2 (by decide) (lay i) (wB v3) (wsP v7) (gP v10) arg2 arg6 arg7 arg8 arg9 arg11 harg11 arg13 arg14 arg15
  row 3 (by decide) (lay i) (wB v3) (wsP v7) (gP v10) arg2 arg6 arg7 arg8 arg9 arg11 harg11 arg13 arg14 arg15
  row 4 (by decide) (lay i) (wB v3) (wsP v7) (gP v10) arg2 arg6 arg7 arg8 arg9 arg11 harg11 arg13 arg14 arg15
  row 5 (by decide) (lay i) (wB v3) (wsP v7) (gP v10) arg2 arg6 arg7 arg8 arg9 arg11 harg11 arg13 arg14 arg15
  if h : k0_cond2 i = 1#1 then outAll arg10 arg12 arg14 arg15 else pure ⟨⟩
  pure ⟨⟩

section

variable (c : Dev nD) (i : grid0.Coords) (arg1 : Memref sig .tc .vmem S2304x2048 .i8) (arg2 : Memref sig .tc .vmem S2304x128 .f32)
    (arg3 : Memref sig .tc .vmem S1x2048x256 .i8) (arg4 : Memref sig .tc .vmem S30x256 .f32) (arg5 : Memref sig .tc .vmem S1x256 .f32)
    (arg6 : Memref sig .tc .vmem S2304x128 .i32) (arg7 arg8 : Memref sig .tc .vmem S2304x128 .f32)
    (arg9 : Memref sig .tc .vmem S6x1x384x256 .f32) (arg10 : Memref sig .tc .vmem S6x30x384 .f32)
    (arg11 : Memref sig .tc .vmem S6x1x384x256 .i8) (harg11 : arg11.IsWhole) (arg12 : Memref sig .tc .vmem S6x30x384 .f32)
    (arg13 : Memref sig .tc .vmem S2304x2048 .bf16) (harg13 : arg13.IsWhole) (arg14 arg15 : Memref sig .tc .vmem S2304x128 .f32)

theorem body_first (h : isFirst i = 1#1) :
    body (F := F) i arg1 arg2 arg3 arg4 arg5 arg6 arg7 arg8 arg9 arg10 arg11 harg11 arg12 arg13 harg13 arg14 arg15
      = (inAll arg1 arg13 harg13 >>= fun _ => tail i arg2 arg3 arg4 arg5 arg6 arg7 arg8 arg9 arg10 arg11 harg11 arg12 arg13 arg14 arg15) := by
  unfold body tail
  dsimp only
  rw [dif_pos h]

theorem body_later (h : ¬ isFirst i = 1#1) :
    body (F := F) i arg1 arg2 arg3 arg4 arg5 arg6 arg7 arg8 arg9 arg10 arg11 harg11 arg12 arg13 harg13 arg14 arg15
      = tail i arg2 arg3 arg4 arg5 arg6 arg7 arg8 arg9 arg10 arg11 harg11 arg12 arg13 arg14 arg15 := by
  unfold body tail
  dsimp only
  rw [dif_neg h]

variable (E1 : Vec F S2304x2048 .i8) (E2 : Vec F S2304x128 .f32) (W3 : Vec F S1x2048x256 .i8) (W4 : Vec F S30x256 .f32)
    (G : Vec F S1x256 .f32) (W6 : Vec F S2304x128 .i32) (S7 M8 : Vec F S2304x128 .f32)
    (X9 : Vec F S6x1x384x256 .f32) (X10 : Vec F S6x30x384 .f32) (X11 : Vec F S6x1x384x256 .i8) (X12 : Vec F S6x30x384 .f32)
    (X13 : Vec F S2304x2048 .bf16) (X14 X15 : Vec F S2304x128 .f32)

theorem st9_zero (I : In F) : I.st9 0 X9 = X9 := by funext x; unfold In.st9; rw [if_neg (by omega)]
theorem st11_zero (I : In F) : I.st11 0 X11 = X11 := by funext x; unfold In.st11; rw [if_neg (by omega)]
theorem st14_zero (I : In F) : I.st14 0 X14 = X14 := by funext x; unfold In.st14; rw [if_neg (by omega)]
theorem st15_zero (I : In F) : I.st15 0 X15 = X15 := by funext x; unfold In.st15; rw [if_neg (by omega)]
theorem st9_all (I : In F) : I.st9 36 X9 = I.P := by
  funext x; unfold In.st9
  have h0 : (x 0).val < 6 := (x 0).isLt
  have h2 : (x 2).val < 384 := (x 2).isLt
  rw [if_pos (by omega)]
theorem st11_all (I : In F) : I.st11 72 X11 = I.C := by
  funext x; unfold In.st11
  have h0 : (x 0).val < 6 := (x 0).isLt
  have h2 : (x 2).val < 384 := (x 2).isLt
  have h3 : (x 3).val < 256 := (x 3).isLt
  rw [if_pos (by omega)]

/-- The accumulator after the point: the layer's own lane at the tokens' root mean squares, the other lanes as they were. -/
def upRms (I : In F) (X : Vec F S2304x128 .f32) : Vec F S2304x128 .f32 := fun x => if I.own (x 1).val then I.RMS (x 0) else X x
/-- The accumulator after the point: the layer's own lane at the tokens' scales, the other lanes as they were. -/
def upSc (I : In F) (X : Vec F S2304x128 .f32) : Vec F S2304x128 .f32 := fun x => if I.own (x 1).val then I.SC (x 0) else X x

theorem st14_all (I : In F) : I.st14 36 X14 = upRms I X14 := by
  funext x; unfold In.st14 upRms
  have h0 : (x 0).val < 2304 := (x 0).isLt
  simp only [show (x 0).val / 64 < 36 by omega, true_and]
theorem st15_all (I : In F) : I.st15 36 X15 = upSc I X15 := by
  funext x; unfold In.st15 upSc
  have h0 : (x 0).val < 2304 := (x 0).isLt
  simp only [show (x 0).val / 64 < 36 by omega, true_and]

/-- Everything that a point owns, at given contents of the buffers that it writes. -/
def all (c : Dev nD) (Y9 : Vec F S6x1x384x256 .f32) (Y10 : Vec F S6x30x384 .f32) (Y11 : Vec F S6x1x384x256 .i8) (Y12 : Vec F S6x30x384 .f32)
    (Y13 : Vec F S2304x2048 .bf16) (Y14 Y15 : Vec F S2304x128 .f32) : sProp 𝕄 :=
  iprop(owns (c : Thread nD τ) arg1 fullShare E1 ∗ owns (c : Thread nD τ) arg2 fullShare E2 ∗ owns (c : Thread nD τ) arg3 fullShare W3
    ∗ owns (c : Thread nD τ) arg4 fullShare W4 ∗ owns (c : Thread nD τ) arg5 fullShare G ∗ owns (c : Thread nD τ) arg6 fullShare W6
    ∗ owns (c : Thread nD τ) arg7 fullShare S7 ∗ owns (c : Thread nD τ) arg8 fullShare M8 ∗ owns (c : Thread nD τ) arg9 fullShare Y9
    ∗ owns (c : Thread nD τ) arg10 fullShare Y10 ∗ owns (c : Thread nD τ) arg11 fullShare Y11 ∗ owns (c : Thread nD τ) arg12 fullShare Y12
    ∗ owns (c : Thread nD τ) arg13 fullShare Y13 ∗ owns (c : Thread nD τ) arg14 fullShare Y14 ∗ owns (c : Thread nD τ) arg15 fullShare Y15)

set_option maxHeartbeats 4000000 in
/-- The point after the codes' conversion: the projection, the codes, the lanes of the two accumulators, and at the last point the two
    transposed results. -/
theorem wp_tail (I : In F) (hI : I = mkIn i E1 E2 W3 W4 G W6 S7 M8) (Q : PUnit → sProp 𝕄) :
    all arg1 arg2 arg3 arg4 arg5 arg6 arg7 arg8 arg9 arg10 arg11 arg12 arg13 arg14 arg15 E1 E2 W3 W4 G W6 S7 M8 c X9 X10 X11 X12
        (sitofp .bf16 (E1 : IVec S2304x2048 8)) X14 X15
      ⊢ iprop((all arg1 arg2 arg3 arg4 arg5 arg6 arg7 arg8 arg9 arg10 arg11 arg12 arg13 arg14 arg15 E1 E2 W3 W4 G W6 S7 M8 c
            I.P (if k0_cond2 i = 1#1 then outF (upRms I X14) else X10) I.C (if k0_cond2 i = 1#1 then outF (upSc I X15) else X12)
            (sitofp .bf16 (E1 : IVec S2304x2048 8)) (upRms I X14) (upSc I X15) -∗ Q ⟨⟩)
        -∗ wpk c (tail i arg2 arg3 arg4 arg5 arg6 arg7 arg8 arg9 arg10 arg11 harg11 arg12 arg13 arg14 arg15) Q) := by
  unfold all tail
  simp only [Prog.bind_lift, Prog.bind_op]
  iintro ⟨H1, H2, H3, H4, H5, H6, H7, H8, H9, H10, H11, H12, H13, H14, H15⟩
  iintro HK
  iapply (wp_ld c arg3 _ _ W3) $$ H3
  iintro H3
  iapply (wp_ld c arg4 _ _ W4) $$ H4
  iintro H4
  iapply (wp_ld c arg5 _ _ G) $$ H5
  iintro H5
  have e0 : held c I arg2 arg6 arg7 arg8 arg9 arg11 arg14 arg15 X9 X11 X14 X15 (6 * 0)
      = iprop(owns (c : Thread nD τ) arg2 fullShare E2 ∗ owns (c : Thread nD τ) arg6 fullShare W6 ∗ owns (c : Thread nD τ) arg7 fullShare S7
        ∗ owns (c : Thread nD τ) arg8 fullShare M8 ∗ owns (c : Thread nD τ) arg9 fullShare X9 ∗ owns (c : Thread nD τ) arg11 fullShare X11
        ∗ owns (c : Thread nD τ) arg14 fullShare X14 ∗ owns (c : Thread nD τ) arg15 fullShare X15) := by
    subst hI; unfold held
    rw [show 6 * 0 = 0 from rfl, st9_zero, st11_zero, st14_zero, st15_zero]; rfl
  have e6 : held c I arg2 arg6 arg7 arg8 arg9 arg11 arg14 arg15 X9 X11 X14 X15 (6 * (5 + 1))
      = iprop(owns (c : Thread nD τ) arg2 fullShare E2 ∗ owns (c : Thread nD τ) arg6 fullShare W6 ∗ owns (c : Thread nD τ) arg7 fullShare S7
        ∗ owns (c : Thread nD τ) arg8 fullShare M8 ∗ owns (c : Thread nD τ) arg9 fullShare I.P ∗ owns (c : Thread nD τ) arg11 fullShare I.C
        ∗ owns (c : Thread nD τ) arg14 fullShare (upRms I X14) ∗ owns (c : Thread nD τ) arg15 fullShare (upSc I X15)) := by
    subst hI; unfold held
    rw [show 6 * (5 + 1) = 36 from rfl, st9_all, st11_all, st14_all, st15_all]; rfl
  have eb : (I.EB : Vec F S2304x2048 .bf16) = sitofp .bf16 (E1 : IVec S2304x2048 8) := by subst hI; rfl
  subst hI
  iapply (wp_row c (mkIn i E1 E2 W3 W4 G W6 S7 M8) 0 _ arg2 arg6 arg7 arg8 arg9 arg11 harg11 arg13 arg14 arg15 X9 X11 X14 X15) $$ [H2 H6 H7 H8 H9 H11 H13 H14 H15]
  · rw [e0, eb]
    isplitl [H13]; · iexact H13
    isplitl [H2]; · iexact H2
    isplitl [H6]; · iexact H6
    isplitl [H7]; · iexact H7
    isplitl [H8]; · iexact H8
    isplitl [H9]; · iexact H9
    isplitl [H11]; · iexact H11
    isplitl [H14]; · iexact H14
    iexact H15
  iintro H
  iapply (wp_row c (mkIn i E1 E2 W3 W4 G W6 S7 M8) 1 _ arg2 arg6 arg7 arg8 arg9 arg11 harg11 arg13 arg14 arg15 X9 X11 X14 X15) $$ H
  iintro H
  iapply (wp_row c (mkIn i E1 E2 W3 W4 G W6 S7 M8) 2 _ arg2 arg6 arg7 arg8 arg9 arg11 harg11 arg13 arg14 arg15 X9 X11 X14 X15) $$ H
  iintro H
  iapply (wp_row c (mkIn i E1 E2 W3 W4 G W6 S7 M8) 3 _ arg2 arg6 arg7 arg8 arg9 arg11 harg11 arg13 arg14 arg15 X9 X11 X14 X15) $$ H
  iintro H
  iapply (wp_row c (mkIn i E1 E2 W3 W4 G W6 S7 M8) 4 _ arg2 arg6 arg7 arg8 arg9 arg11 harg11 arg13 arg14 arg15 X9 X11 X14 X15) $$ H
  iintro H
  iapply (wp_row c (mkIn i E1 E2 W3 W4 G W6 S7 M8) 5 _ arg2 arg6 arg7 arg8 arg9 arg11 harg11 arg13 arg14 arg15 X9 X11 X14 X15) $$ H
  rw [e6, eb]
  iintro ⟨H13, H2, H6, H7, H8, H9, H11, H14, H15⟩
  by_cases h : k0_cond2 i = 1#1
  · simp only [dif_pos h, if_pos h]
    iapply (wp_outAll c arg10 arg12 arg14 arg15 _ _ X10 X12) $$ [H14 H10 H15 H12]
    · isplitl [H14]; · iexact H14
      isplitl [H10]; · iexact H10
      isplitl [H15]; · iexact H15
      iexact H12
    iintro ⟨H14, H10, H15, H12⟩
    iapply (wp_end c Q)
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · simp only [dif_neg h, if_neg h]
    iapply (wp_end c Q)
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The whole point. At a later point the codes' buffer already holds the converted codes. -/
theorem wp_body (hX : isFirst i = 1#1 ∨ X13 = sitofp .bf16 (E1 : IVec S2304x2048 8)) (I : In F) (hI : I = mkIn i E1 E2 W3 W4 G W6 S7 M8) (Q : PUnit → sProp 𝕄) :
    all arg1 arg2 arg3 arg4 arg5 arg6 arg7 arg8 arg9 arg10 arg11 arg12 arg13 arg14 arg15 E1 E2 W3 W4 G W6 S7 M8 c X9 X10 X11 X12 X13 X14 X15
      ⊢ iprop((all arg1 arg2 arg3 arg4 arg5 arg6 arg7 arg8 arg9 arg10 arg11 arg12 arg13 arg14 arg15 E1 E2 W3 W4 G W6 S7 M8 c
            I.P (if k0_cond2 i = 1#1 then outF (upRms I X14) else X10) I.C (if k0_cond2 i = 1#1 then outF (upSc I X15) else X12)
            (sitofp .bf16 (E1 : IVec S2304x2048 8)) (upRms I X14) (upSc I X15) -∗ Q ⟨⟩)
        -∗ wpk c (body i arg1 arg2 arg3 arg4 arg5 arg6 arg7 arg8 arg9 arg10 arg11 harg11 arg12 arg13 harg13 arg14 arg15) Q) := by
  by_cases h : isFirst i = 1#1
  · rw [body_first _ _ _ _ _ _ _ _ _ _ _ _ _ _ _ _ _ _ h]
    iintro H
    iintro HK
    unfold all
    icases H with ⟨H1, H2, H3, H4, H5, H6, H7, H8, H9, H10, H11, H12, H13, H14, H15⟩
    iapply (wp_inAll c arg1 arg13 harg13 E1 X13) $$ [H1 H13]
    · isplitl [H1]; · iexact H1
      iexact H13
    iintro ⟨H1, H13⟩
    iapply (wp_tail c i arg1 arg2 arg3 arg4 arg5 arg6 arg7 arg8 arg9 arg10 arg11 harg11 arg12 arg13 arg14 arg15 E1 E2 W3 W4 G W6 S7 M8 X9 X10 X11 X12 X14 X15 I hI Q)
      $$ [H1 H2 H3 H4 H5 H6 H7 H8 H9 H10 H11 H12 H13 H14 H15]
    · unfold all
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    unfold all
    iexact HK
  · rw [body_later _ _ _ _ _ _ _ _ _ _ _ _ _ _ _ _ _ _ h]
    rcases hX with hX | hX
    · exact absurd hX h
    rw [hX]
    exact wp_tail c i arg1 arg2 arg3 arg4 arg5 arg6 arg7 arg8 arg9 arg10 arg11 harg11 arg12 arg13 arg14 arg15 E1 E2 W3 W4 G W6 S7 M8 X9 X10 X11 X12 X14 X15 I hI Q

end

end Cert.KernelIdeal.Hand

end
-- ==== Proof.IdealFrame.lean ====
/- The pipelined call over its thirty points: what each point leaves, what the three scratch buffers carry from point to point, and the
   run of the whole program. -/
module

public import proofs.«01_k».proof.Proof.Point
public import proofs.«01_k».proof.Proof.Gen.KernelIdeal.Frame
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points -/

theorem layer_val (t : Fin cfg0.N) : (grid0.coords t 0).val = t.val := by
  have ht : t.val < 30 := Nat.lt_of_lt_of_eq t.isLt N_0
  have e0 : (grid0.coords t 0).val = t.val / 1 % 30 := Pipeline.Grid.coords_val t 0 (by decide) rfl
  omega

theorem isFirst_iff (t : Fin cfg0.N) : isFirst (grid0.coords t) = 1#1 ↔ t.val = 0 := by
  have ht : t.val < 30 := Nat.lt_of_lt_of_eq t.isLt N_0
  simp only [isFirst, lay, layer_val]
  word_cmp

theorem isLast_iff (t : Fin cfg0.N) : k0_cond2 (grid0.coords t) = 1#1 ↔ t.val = 29 := by
  have ht : t.val < 30 := Nat.lt_of_lt_of_eq t.isLt N_0
  simp only [k0_cond2, layer_val]
  word_cmp

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_10 : ∀ t : Fin cfg0.N, cfg0.idle 10 (grid0.coords t) = false := fun _ => rfl

theorem idle_9 (t : Fin cfg0.N) (h : ¬ t.val = 29) : cfg0.idle 9 (grid0.coords t) = true := by
  show (!(k0_cond2 (grid0.coords t) == 1#1)) = true
  rw [beq_eq_false_iff_ne.mpr (fun e => h ((isLast_iff t).mp e))]; rfl
theorem idle_11 (t : Fin cfg0.N) (h : ¬ t.val = 29) : cfg0.idle 11 (grid0.coords t) = true := by
  show (!(k0_cond2 (grid0.coords t) == 1#1)) = true
  rw [beq_eq_false_iff_ne.mpr (fun e => h ((isLast_iff t).mp e))]; rfl
theorem live_9 (t : Fin cfg0.N) (h : t.val = 29) : cfg0.idle 9 (grid0.coords t) = false := by
  show (!(k0_cond2 (grid0.coords t) == 1#1)) = false
  rw [(isLast_iff t).mpr h]; rfl
theorem live_11 (t : Fin cfg0.N) (h : t.val = 29) : cfg0.idle 11 (grid0.coords t) = false := by
  show (!(k0_cond2 (grid0.coords t) == 1#1)) = false
  rw [(isLast_iff t).mpr h]; rfl
theorem noflush_9 (t : Fin cfg0.N) (h : ¬ t.val = 29) : (cfg0.win 9).flush t = false := by
  have ht : t.val < 30 := Nat.lt_of_lt_of_eq t.isLt N_0
  have := flush0_9 t
  cases e : (cfg0.win 9).flush t
  · rfl
  · exact absurd (this.mp e) (by omega)
theorem noflush_11 (t : Fin cfg0.N) (h : ¬ t.val = 29) : (cfg0.win 11).flush t = false := by
  have ht : t.val < 30 := Nat.lt_of_lt_of_eq t.isLt N_0
  have := flush0_11 t
  cases e : (cfg0.win 11).flush t
  · rfl
  · exact absurd (this.mp e) (by omega)

/-! ## What the points compute -/

/-- The values that the tiles of point `t` read. -/
def Iat (c : Dev nD) (t : Fin cfg0.N) : In F :=
  mkIn (grid0.coords t) (iblk m c 0 t) (iblk m c 1 t) (iblk m c 2 t) (iblk m c 3 t) (iblk m c 4 t) (iblk m c 5 t) (iblk m c 6 t) (iblk m c 7 t)

/-- The point of a layer. -/
def pt (l : ℕ) (h : l < 30) : Fin cfg0.N := ⟨l, Nat.lt_of_lt_of_eq h N_0.symm⟩

/-- The root mean squares of all layers. -/
def segV (c : Dev nD) : Vec F S6x30x384 .f32 := fun x =>
  (Iat m c (pt (x 1).val (x 1).isLt)).RMS ⟨384 * (x 0).val + (x 2).val, by have h0 : (x 0).val < 6 := (x 0).isLt; have h2 : (x 2).val < 384 := (x 2).isLt; omega⟩

/-- The quantiser's scales of all layers. -/
def csV (c : Dev nD) : Vec F S6x30x384 .f32 := fun x =>
  (Iat m c (pt (x 1).val (x 1).isLt)).SC ⟨384 * (x 0).val + (x 2).val, by have h0 : (x 0).val < 6 := (x 0).isLt; have h2 : (x 2).val < 384 := (x 2).isLt; omega⟩

/-- The lanes of the first `n` layers hold those layers' root mean squares. -/
def accR (c : Dev nD) (n : ℕ) (d : Vec F S2304x128 .f32) : Prop :=
  ∀ (x : S2304x128.Idx) (h : (x 1).val < 30), (x 1).val < n → d x = (Iat m c (pt (x 1).val h)).RMS (x 0)

/-- The lanes of the first `n` layers hold those layers' scales. -/
def accS (c : Dev nD) (n : ℕ) (d : Vec F S2304x128 .f32) : Prop :=
  ∀ (x : S2304x128.Idx) (h : (x 1).val < 30), (x 1).val < n → d x = (Iat m c (pt (x 1).val h)).SC (x 0)

theorem own_iff (c : Dev nD) (t : Fin cfg0.N) (l : ℕ) (hl : l < 128) : (Iat m c t).own l ↔ l = t.val := by
  have ht : t.val < 30 := Nat.lt_of_lt_of_eq t.isLt N_0
  show BitVec.ofNat 32 l = lay (grid0.coords t) ↔ _
  unfold lay
  rw [layer_val]
  constructor
  · intro h
    have := congrArg BitVec.toNat h
    simp only [BitVec.toNat_ofNat] at this
    omega
  · intro h; rw [h]

theorem accR_step (c : Dev nD) (t : Fin cfg0.N) (d : Vec F S2304x128 .f32) (h : accR m c t.val d) : accR m c (t.val + 1) (upRms (Iat m c t) d) := by
  intro x hx hl
  unfold upRms
  by_cases e : (x 1).val = t.val
  · rw [if_pos ((own_iff m c t _ (x 1).isLt).mpr e)]
    rw [show pt (x 1).val hx = t from Fin.ext e]
  · rw [if_neg (fun h => e ((own_iff m c t _ (x 1).isLt).mp h))]
    exact h x hx (by omega)

theorem accS_step (c : Dev nD) (t : Fin cfg0.N) (d : Vec F S2304x128 .f32) (h : accS m c t.val d) : accS m c (t.val + 1) (upSc (Iat m c t) d) := by
  intro x hx hl
  unfold upSc
  by_cases e : (x 1).val = t.val
  · rw [if_pos ((own_iff m c t _ (x 1).isLt).mpr e)]
    rw [show pt (x 1).val hx = t from Fin.ext e]
  · rw [if_neg (fun h => e ((own_iff m c t _ (x 1).isLt).mp h))]
    exact h x hx (by omega)

theorem outF_R (c : Dev nD) (d : Vec F S2304x128 .f32) (h : accR m c 30 d) : outF d = segV m c := by
  funext x; unfold outF segV
  exact h _ (x 1).isLt (x 1).isLt

theorem outF_S (c : Dev nD) (d : Vec F S2304x128 .f32) (h : accS m c 30 d) : outF d = csV m c := by
  funext x; unfold outF csV
  exact h _ (x 1).isLt (x 1).isLt

/-! ## The staging buffers and the scratch -/

abbrev ms0 (t : Fin cfg0.N) : Memref sig .tc .vmem S2304x2048 .i8 := win0_0.stage (cfg0.slots t 0)
abbrev ms1 (t : Fin cfg0.N) : Memref sig .tc .vmem S2304x128 .f32 := win0_1.stage (cfg0.slots t 1)
abbrev ms2 (t : Fin cfg0.N) : Memref sig .tc .vmem S1x2048x256 .i8 := win0_2.stage (cfg0.slots t 2)
abbrev ms3 (t : Fin cfg0.N) : Memref sig .tc .vmem S30x256 .f32 := win0_3.stage (cfg0.slots t 3)
abbrev ms4 (t : Fin cfg0.N) : Memref sig .tc .vmem S1x256 .f32 := win0_4.stage (cfg0.slots t 4)
abbrev ms5 (t : Fin cfg0.N) : Memref sig .tc .vmem S2304x128 .i32 := win0_5.stage (cfg0.slots t 5)
abbrev ms6 (t : Fin cfg0.N) : Memref sig .tc .vmem S2304x128 .f32 := win0_6.stage (cfg0.slots t 6)
abbrev ms7 (t : Fin cfg0.N) : Memref sig .tc .vmem S2304x128 .f32 := win0_7.stage (cfg0.slots t 7)
abbrev ms8 (t : Fin cfg0.N) : Memref sig .tc .vmem S6x1x384x256 .f32 := win0_8.stage (cfg0.slots t 8)
abbrev ms9 (t : Fin cfg0.N) : Memref sig .tc .vmem S6x30x384 .f32 := win0_9.stage (cfg0.slots t 9)
abbrev ms10 (t : Fin cfg0.N) : Memref sig .tc .vmem S6x1x384x256 .i8 := win0_10.stage (cfg0.slots t 10)
abbrev ms11 (t : Fin cfg0.N) : Memref sig .tc .vmem S6x30x384 .f32 := win0_11.stage (cfg0.slots t 11)
abbrev sc0 : Memref sig .tc .vmem S2304x2048 .bf16 := Memref.whole cc0_scratch0
abbrev sc1 : Memref sig .tc .vmem S2304x128 .f32 := Memref.whole cc0_scratch1
abbrev sc2 : Memref sig .tc .vmem S2304x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The converted codes, the same at every point. -/
def EBat (c : Dev nD) (t : Fin cfg0.N) : Vec F S2304x2048 .bf16 := sitofp .bf16 ((iblk m c 0 t : Vec F S2304x2048 .i8) : IVec S2304x2048 8)

theorem EBat_eq (c : Dev nD) (t t' : Fin cfg0.N) : EBat m c t = EBat m c t' := rfl

/-- What the scratch buffers hold after `n` points: anything before the first; then the converted codes, and the done layers' lanes. -/
def PhiN (c : Dev nD) : (n : ℕ) → n ≤ cfg0.N → sProp 𝕄
  | 0, _ => Pipeline.ΦA spec0 c
  | n + 1, _ => iprop(iprop(owns (c : Thread nD τ) sc0 fullShare (EBat m c (pt 0 (by decide)))
      ∗ (∃ d, iprop(⌜accR m c (n + 1) d⌝ ∗ owns (c : Thread nD τ) sc1 fullShare d)) ∗ (∃ d, iprop(⌜accS m c (n + 1) d⌝ ∗ owns (c : Thread nD τ) sc2 fullShare d))) ∗ (∃ r, prngReg c r))

theorem PhiN_zero (c : Dev nD) (n : ℕ) (h : n ≤ cfg0.N) (hz : n = 0) : PhiN m c n h = Pipeline.ΦA spec0 c := by subst hz; rfl
theorem PhiN_pos (c : Dev nD) (n : ℕ) (h : n ≤ cfg0.N) (hz : n ≠ 0) :
    PhiN m c n h = iprop(iprop(owns (c : Thread nD τ) sc0 fullShare (EBat m c (pt 0 (by decide)))
      ∗ (∃ d, iprop(⌜accR m c n d⌝ ∗ owns (c : Thread nD τ) sc1 fullShare d)) ∗ (∃ d, iprop(⌜accS m c n d⌝ ∗ owns (c : Thread nD τ) sc2 fullShare d))) ∗ (∃ r, prngReg c r)) := by
  cases n with
  | zero => exact absurd rfl hz
  | succ n => rfl

/-- The call's proof data: the inputs stay, the projection's and the codes' blocks are the point's, the two small results the layers'
    root mean squares and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (Iat m c t).P
    | ⟨9, _⟩ => segV m c
    | ⟨10, _⟩ => (Iat m c t).C
    | ⟨11, _⟩ => csV m c
  Φ t := PhiN m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiN m c t.val (Nat.le_of_lt t.isLt) := by
  dsimp only [dats]; exact Pipeline.Dat.Φ_castSucc (PhiN m c) t
theorem Phi_succ (c : Dev nD) (t : Fin cfg0.N) : (dats m 0 c).Φ t.succ = PhiN m c (t.val + 1) t.isLt := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (Iat m c t).P := by dsimp only [dats]
theorem after_9 (c : Dev nD) (t : Fin cfg0.N) : (dats m 0 c).after 9 t = segV m c := by dsimp only [dats]
theorem after_10 (c : Dev nD) (t : Fin cfg0.N) : (dats m 0 c).after 10 t = (Iat m c t).C := by dsimp only [dats]
theorem after_11 (c : Dev nD) (t : Fin cfg0.N) : (dats m 0 c).after 11 t = csV m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body at a point -/

/-- What a point is given, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The point's windows, its scratch named, run through the body. -/
def Pt (c : Dev nD) (t : Fin cfg0.N) := all (F := F) (ms0 t) (ms1 t) (ms2 t) (ms3 t) (ms4 t) (ms5 t) (ms6 t) (ms7 t) (ms8 t) (ms9 t) (ms10 t) (ms11 t) sc0 sc1 sc2 (iblk m c 0 t) (iblk m c 1 t) (iblk m c 2 t) (iblk m c 3 t) (iblk m c 4 t) (iblk m c 5 t) (iblk m c 6 t) (iblk m c 7 t) c

theorem wp_point (c : Dev nD) (t : Fin cfg0.N) (X9 : Vec F S6x1x384x256 .f32) (X10 : Vec F S6x30x384 .f32) (X11 : Vec F S6x1x384x256 .i8) (X12 : Vec F S6x30x384 .f32)
    (X13 : Vec F S2304x2048 .bf16) (X14 X15 : Vec F S2304x128 .f32) (hX : t.val = 0 ∨ X13 = EBat m c t) (Q : PUnit → sProp 𝕄) :
    Pt m c t X9 X10 X11 X12 X13 X14 X15
      ⊢ iprop((Pt m c t (Iat m c t).P (if k0_cond2 (grid0.coords t) = 1#1 then outF (upRms (Iat m c t) X14) else X10) (Iat m c t).C
            (if k0_cond2 (grid0.coords t) = 1#1 then outF (upSc (Iat m c t) X15) else X12) (EBat m c t) (upRms (Iat m c t) X14) (upSc (Iat m c t) X15) -∗ Q ⟨⟩)
        -∗ wpk c (bodyAt0 t) Q) := by
  unfold Pt bodyAt0
  rw [body_eq]
  exact wp_body c (grid0.coords t) (ms0 t) (ms1 t) (ms2 t) (ms3 t) (ms4 t) (ms5 t) (ms6 t) (ms7 t) (ms8 t) (ms9 t) (ms10 t) (hstage0_10 ((cfg0.slots t 10).cast nbuf0_10)) (ms11 t) sc0 (Memref.isWhole_whole _) sc1 sc2 _ _ _ _ _ _ _ _ X9 X10 X11 X12 X13 X14 X15
    (hX.imp_left (isFirst_iff t).mpr) (Iat m c t) rfl Q

/-! ## The invariant -/

set_option maxHeartbeats 8000000 in
/-- A point, its scratch buffers at contents that hold the lanes of the points before it. -/
theorem sound_core (c : Dev nD) (t : Fin cfg0.N) (X13 : Vec F S2304x2048 .bf16) (X14 X15 : Vec F S2304x128 .f32) (hX : t.val = 0 ∨ X13 = EBat m c t)
    (hR : accR m c t.val X14) (hS : accS m c t.val X15) :
    iprop(iprop(iprop(owns (c : Thread nD τ) sc0 fullShare X13 ∗ owns (c : Thread nD τ) sc1 fullShare X14 ∗ owns (c : Thread nD τ) sc2 fullShare X15) ∗ (∃ r, prngReg c r))
        ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))
      ⊢ wp frame (wpE (defs₀ (F := F)) Variants.none (c : Thread nD τ) none) Set.univ (bodyAt0 t) (fun _ => bodyPost m c t) := by
  unfold bodyPost
  rw [show (dats m 0 c).owesAt () t.succ = (dats m 0 c).owesAt () t.castSucc from rfl, Phi_succ, PhiN_pos _ _ _ _ (Nat.succ_ne_zero _)]
  rw [show (dats m 0 c).leavesExact 0 t = owns (c : Thread nD τ) (ms0 t) fullShare ((dats m 0 c).after 0 t) from by unfold Dat.leavesExact; rw [live_0 t], after_0]
  rw [show (dats m 0 c).leavesExact 1 t = owns (c : Thread nD τ) (ms1 t) fullShare ((dats m 0 c).after 1 t) from by unfold Dat.leavesExact; rw [live_1 t], after_1]
  rw [show (dats m 0 c).leavesExact 2 t = owns (c : Thread nD τ) (ms2 t) fullShare ((dats m 0 c).after 2 t) from by unfold Dat.leavesExact; rw [live_2 t], after_2]
  rw [show (dats m 0 c).leavesExact 3 t = owns (c : Thread nD τ) (ms3 t) fullShare ((dats m 0 c).after 3 t) from by unfold Dat.leavesExact; rw [live_3 t], after_3]
  rw [show (dats m 0 c).leavesExact 4 t = owns (c : Thread nD τ) (ms4 t) fullShare ((dats m 0 c).after 4 t) from by unfold Dat.leavesExact; rw [live_4 t], after_4]
  rw [show (dats m 0 c).leavesExact 5 t = owns (c : Thread nD τ) (ms5 t) fullShare ((dats m 0 c).after 5 t) from by unfold Dat.leavesExact; rw [live_5 t], after_5]
  rw [show (dats m 0 c).leavesExact 6 t = owns (c : Thread nD τ) (ms6 t) fullShare ((dats m 0 c).after 6 t) from by unfold Dat.leavesExact; rw [live_6 t], after_6]
  rw [show (dats m 0 c).leavesExact 7 t = owns (c : Thread nD τ) (ms7 t) fullShare ((dats m 0 c).after 7 t) from by unfold Dat.leavesExact; rw [live_7 t], after_7]
  rw [show (dats m 0 c).leavesExact 8 t = owns (c : Thread nD τ) (ms8 t) fullShare ((dats m 0 c).after 8 t) from by unfold Dat.leavesExact; rw [live_8 t], after_8]
  rw [show (dats m 0 c).leavesExact 10 t = owns (c : Thread nD τ) (ms10 t) fullShare ((dats m 0 c).after 10 t) from by unfold Dat.leavesExact; rw [live_10 t], after_10]
  simp only [before_0, before_1, before_2, before_3, before_4, before_5, before_6, before_7]
  iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_point m c t _ _ _ _ X13 X14 X15 hX _) $$ [H0 H1 H2 H3 H4 H5 H6 H7 H8 H9 H10 H11 HA HB HC]
  · unfold Pt all
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HA]; · iexact HA
    isplitl [HB]; · iexact HB
    iexact HC
  unfold Pt all
  iintro ⟨H0, H1, H2, H3, H4, H5, H6, H7, H8, H9, H10, H11, HA, HB, HC⟩
  isplitl [HA HB HC Hg]
  · isplitl [HA HB HC]
    · isplitl [HA]; · iexact HA
      isplitl [HB]
      · iexists (upRms (Iat m c t) X14)
        isplitr; · ipureintro; exact accR_step m c t X14 hR
        iexact HB
      iexists (upSc (Iat m c t) X15)
      isplitr; · ipureintro; exact accS_step m c t X15 hS
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h : t.val = 29
  · rw [show (dats m 0 c).leavesExact 9 t = owns (c : Thread nD τ) (ms9 t) fullShare ((dats m 0 c).after 9 t) from by unfold Dat.leavesExact; rw [live_9 t h], after_9]
    rw [show (dats m 0 c).leavesExact 11 t = owns (c : Thread nD τ) (ms11 t) fullShare ((dats m 0 c).after 11 t) from by unfold Dat.leavesExact; rw [live_11 t h], after_11]
    rw [if_pos ((isLast_iff t).mpr h), if_pos ((isLast_iff t).mpr h)]
    rw [outF_R m c _ (by have := accR_step m c t X14 hR; rw [h] at this; exact this), outF_S m c _ (by have := accS_step m c t X15 hS; rw [h] at this; exact this)]
    isplitl [H9]; · iexact H9
    isplitl [H10]; · iexact H10
    iexact H11
  · rw [Dat.leavesExact_idle (dats m 0 c) 9 t (idle_9 t h) (noflush_9 t h), Dat.leavesExact_idle (dats m 0 c) 11 t (idle_11 t h) (noflush_11 t h)]
    rw [if_neg (fun e => h ((isLast_iff t).mp e)), if_neg (fun e => h ((isLast_iff t).mp e))]
    isplitl [H9]; · iexists d9; iexact H9
    isplitl [H10]; · iexact H10
    iexists d11; iexact H11

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre
  rw [Phi_castSucc]
  by_cases hz : t.val = 0
  · rw [PhiN_zero m c _ _ hz, PhiA_eq]
    iintro ⟨⟨⟨⟨%X13, HA⟩, ⟨%X14, HB⟩, ⟨%X15, HC⟩⟩, Hg⟩, Ho, H⟩
    iapply (sound_core m c t X13 X14 X15 (Or.inl hz) (fun x _ hl => absurd hl (by omega)) (fun x _ hl => absurd hl (by omega)))
    isplitl [HA HB HC Hg]
    · isplitl [HA HB HC]
      · isplitl [HA]; · iexact HA
        isplitl [HB]; · iexact HB
        iexact HC
      iexact Hg
    isplitl [Ho]; · iexact Ho
    iexact H
  · rw [PhiN_pos m c _ _ hz]
    iintro ⟨⟨⟨HA, ⟨%X14, %hR, HB⟩, ⟨%X15, %hS, HC⟩⟩, Hg⟩, Ho, H⟩
    iapply (sound_core m c t (EBat m c (pt 0 (by decide))) X14 X15 (Or.inr (EBat_eq m c _ _)) hR hS)
    isplitl [HA HB HC Hg]
    · isplitl [HA HB HC]
      · isplitl [HA]; · iexact HA
        isplitl [HB]; · iexact HB
        iexact HC
      iexact Hg
    isplitl [Ho]; · iexact Ho
    iexact H

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact Idealize.ShloMosaic.triple_restated (sound_body m c t) rfl .rfl fun _ => .rfl

theorem hin (c : Dev nD) : Pipeline.ΦA spec0 c ⊢ (dats m 0 c).Φ 0 := by
  rw [show (dats m 0 c).Φ 0 = PhiN m c 0 (Nat.zero_le _) from rfl, PhiN_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiN m c (Fin.last cfg0.N).val (Nat.le_of_lt_succ (Fin.last cfg0.N).isLt) from rfl,
    PhiN_pos m c _ _ (by rw [Fin.val_last]; have : cfg0.N = 30 := N_0; omega), PhiA_eq]
  iintro ⟨⟨HA, ⟨%X14, %hR, HB⟩, ⟨%X15, %hS, HC⟩⟩, Hg⟩
  isplitl [HA HB HC]
  · isplitl [HA]; · iexists _; iexact HA
    isplitl [HB]; · iexists _; iexact HB
    iexists _; iexact HC
  iexact Hg

/-! ## The run and the frame -/

set_option backward.isDefEq.respectTransparency.types false in
/-- The run: it ends, the arrays are at the proof data's, and every semaphore counter is at zero. -/
theorem run_all : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_post : θ_run defs (onTc (τ := τ) (main (F := F))) (s₀ m ρ) (Pipeline.FramePost cfgs (dats m) 0 (V m)) :=
  (θ_run defs _ _).mono (fun _ h => h.1) (run_all m ρ)

/-- The frame: the argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ)) ((θ_run defs _ _).mono (fun _ h => h.2) (run_all m ρ))

end Cert.KernelIdeal.Hand

end
-- ==== Proof.IdealArrays.lean ====
/- What the arrays hold at the two ends of the idealized call: what the blocks of a grid point are of the argument arrays, and
   what the four result arrays are when the call returns. -/
module

public import proofs.«01_k».proof.Proof.IdealFrame
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ) (ρ : Dev nD → PrngReg)

/-! ## The two arrays made before the call -/

/-- The weights with the layer first. -/
theorem V_main_v0 (c : Dev nD) : V m c main_v0 = transpose S30x2048x256 [1, 0, 2] (m ((c : Thread nD τ).loc main_arg2)) transposes_S2048x30x256_S30x2048x256_1_0_2 := by
  rfl

/-- The gains as a row. -/
theorem V_main_v1 (c : Dev nD) : V m c main_v1 = shapeCast S1x256 (m ((c : Thread nD τ).loc main_arg4)) shapeCasts_S256_S1x256 := by
  rfl

/-! ## A point's blocks at coordinates -/

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, t.val / 8] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, t.val, 0, 0] := (by decide +kernel : ∀ t : Fin grid0.N, _)
theorem ix_10 : ∀ t : Fin cfg0.N, win0_10.index t = ![0, t.val, 0, 0] := (by decide +kernel : ∀ t : Fin grid0.N, _)
theorem off1_eq : ∀ t : Fin cfg0.N, k0_off1 (grid0.coords t) = ![t.val, 0] := (by decide +kernel : ∀ t : Fin grid0.N, _)

theorem emb_0 (t : Fin cfg0.N) (j : S2304x2048.Idx) : ((cfg0.win 0).blk t).view.emb j = j := by
  have e := ix_0 t
  funext a; apply Fin.ext
  match a with
  | ⟨0, _⟩ => show win0_0.index t (0 : Fin 2) * 2304 + 1 * (j 0).val = (j 0).val; rw [e]; show 0 * 2304 + _ = _; omega
  | ⟨1, _⟩ => show win0_0.index t (1 : Fin 2) * 2048 + 1 * (j 1).val = (j 1).val; rw [e]; show 0 * 2048 + _ = _; omega
theorem emb_1 (t : Fin cfg0.N) (j : S2304x128.Idx) : ((cfg0.win 1).blk t).view.emb j = j := by
  have e := ix_1 t
  funext a; apply Fin.ext
  match a with
  | ⟨0, _⟩ => show win0_1.index t (0 : Fin 2) * 2304 + 1 * (j 0).val = (j 0).val; rw [e]; show 0 * 2304 + _ = _; omega
  | ⟨1, _⟩ => show win0_1.index t (1 : Fin 2) * 128 + 1 * (j 1).val = (j 1).val; rw [e]; show 0 * 128 + _ = _; omega
theorem emb_2 (t : Fin cfg0.N) (d : Fin 2048) (j : Fin 256) (h : t.val < 30) :
    ((cfg0.win 2).blk t).view.emb (ix3 (0 : Fin 1) d j) = (ix3 (⟨t.val, h⟩ : Fin 30) d j : S30x2048x256.Idx) := by
  have e := ix_2 t
  funext a; apply Fin.ext
  match a with
  | ⟨0, _⟩ => show win0_2.index t (0 : Fin 3) * 1 + 1 * 0 = t.val; rw [e]; show t.val * 1 + 1 * 0 = _; omega
  | ⟨1, _⟩ => show win0_2.index t (1 : Fin 3) * 2048 + 1 * d.val = d.val; rw [e]; show 0 * 2048 + _ = _; omega
  | ⟨2, _⟩ => show win0_2.index t (2 : Fin 3) * 256 + 1 * j.val = j.val; rw [e]; show 0 * 256 + _ = _; omega
theorem emb_3 (t : Fin cfg0.N) (j : S30x256.Idx) : ((cfg0.win 3).blk t).view.emb j = j := by
  have e := ix_3 t
  funext a; apply Fin.ext
  match a with
  | ⟨0, _⟩ => show win0_3.index t (0 : Fin 2) * 30 + 1 * (j 0).val = (j 0).val; rw [e]; show 0 * 30 + _ = _; omega
  | ⟨1, _⟩ => show win0_3.index t (1 : Fin 2) * 256 + 1 * (j 1).val = (j 1).val; rw [e]; show 0 * 256 + _ = _; omega
theorem emb_4 (t : Fin cfg0.N) (j : S1x256.Idx) : ((cfg0.win 4).blk t).view.emb j = j := by
  have e := ix_4 t
  funext a; apply Fin.ext
  match a with
  | ⟨0, _⟩ => show win0_4.index t (0 : Fin 2) * 1 + 1 * (j 0).val = (j 0).val; rw [e]; show 0 * 1 + _ = _; omega
  | ⟨1, _⟩ => show win0_4.index t (1 : Fin 2) * 256 + 1 * (j 1).val = (j 1).val; rw [e]; show 0 * 256 + _ = _; omega
theorem emb_5 (t : Fin cfg0.N) (r : Fin 2304) (q : Fin 128) (h : 128 * (t.val / 8) + q.val < 512) :
    ((cfg0.win 5).blk t).view.emb (ix2 r q) = (ix2 r (⟨128 * (t.val / 8) + q.val, h⟩ : Fin 512) : S2304x512.Idx) := by
  have e := ix_5 t
  funext a; apply Fin.ext
  match a with
  | ⟨0, _⟩ => show win0_5.index t (0 : Fin 2) * 2304 + 1 * r.val = r.val; rw [e]; show 0 * 2304 + _ = _; omega
  | ⟨1, _⟩ => show win0_5.index t (1 : Fin 2) * 128 + 1 * q.val = 128 * (t.val / 8) + q.val; rw [e]; show t.val / 8 * 128 + _ = _; omega
theorem emb_6 (t : Fin cfg0.N) (j : S2304x128.Idx) : ((cfg0.win 6).blk t).view.emb j = j := by
  have e := ix_6 t
  funext a; apply Fin.ext
  match a with
  | ⟨0, _⟩ => show win0_6.index t (0 : Fin 2) * 2304 + 1 * (j 0).val = (j 0).val; rw [e]; show 0 * 2304 + _ = _; omega
  | ⟨1, _⟩ => show win0_6.index t (1 : Fin 2) * 128 + 1 * (j 1).val = (j 1).val; rw [e]; show 0 * 128 + _ = _; omega
theorem emb_7 (t : Fin cfg0.N) (j : S2304x128.Idx) : ((cfg0.win 7).blk t).view.emb j = j := by
  have e := ix_7 t
  funext a; apply Fin.ext
  match a with
  | ⟨0, _⟩ => show win0_7.index t (0 : Fin 2) * 2304 + 1 * (j 0).val = (j 0).val; rw [e]; show 0 * 2304 + _ = _; omega
  | ⟨1, _⟩ => show win0_7.index t (1 : Fin 2) * 128 + 1 * (j 1).val = (j 1).val; rw [e]; show 0 * 128 + _ = _; omega

/-- The values `I` are those that layer `l`'s point reads of the eight argument arrays. -/
structure PtOf (a0 : Vec F S2304x2048 .i8) (a1 : Vec F S2304x128 .f32) (a2 : Vec F S2048x30x256 .i8) (a3 : Vec F S30x256 .f32) (a4 : Vec F S256 .f32)
    (a5 : Vec F S2304x512 .i32) (a6 a7 : Vec F S2304x128 .f32) (l : Fin 30) (I : In F) : Prop where
  a : I.a = BitVec.ofNat 32 l.val
  w : ∀ (d : Fin 2048) (j : Fin 256), I.w (ix2 d j) = FloatOps.sitofp .bf16 (a2 (ix3 d l j) : BitVec 8)
  ws : ∀ j : Fin 256, I.ws (ix2 (0 : Fin 1) j) = FloatOps.mulf (a3 (ix2 l j)) (Scalar.ofBits .f32 0x3CB504F3#32)
  g : ∀ j : Fin 256, I.g (ix2 (0 : Fin 1) j) = a4 (ix1 j)
  EB : I.EB = sitofp .bf16 (a0 : IVec S2304x2048 8)
  E2 : I.E2 = a1
  W6 : ∀ (r : Fin 2304) (q : Fin 128) (h : 128 * (l.val / 8) + q.val < 512), I.W6 (ix2 r q) = a5 (ix2 r (⟨128 * (l.val / 8) + q.val, h⟩ : Fin 512))
  S7 : I.S7 = a6
  M8 : I.M8 = a7

theorem emb_w (d : Fin 2048) (j : Fin 256) :
    (Rect.unit (s := S1x2048x256) ![0, 0, 0] S1x2048x256.size inb_S1x2048x256_S1x2048x256_0_0_0).emb (ix3 (0 : Fin 1) d j) = (ix3 (0 : Fin 1) d j : S1x2048x256.Idx) := by
  funext a; apply Fin.ext
  match a with
  | ⟨0, _⟩ => rfl
  | ⟨1, _⟩ => show 0 + 1 * d.val = d.val; omega
  | ⟨2, _⟩ => show 0 + 1 * j.val = j.val; omega

theorem emb_g (j : Fin 256) :
    (Rect.unit (s := S1x256) ![0, 0] S1x256.size inb_S1x256_S1x256_0_0).emb (ix2 (0 : Fin 1) j) = (ix2 (0 : Fin 1) j : S1x256.Idx) := by
  funext a; apply Fin.ext
  match a with
  | ⟨0, _⟩ => rfl
  | ⟨1, _⟩ => show 0 + 1 * j.val = j.val; omega

theorem emb_ws (t : Fin cfg0.N) (j : Fin 256) (h : t.val < 30) :
    (Rect.unit (s := S30x256) (k0_off1 (grid0.coords t)) S1x256.size (k0_off1_inb _)).emb (ix2 (0 : Fin 1) j) = (ix2 (⟨t.val, h⟩ : Fin 30) j : S30x256.Idx) := by
  have e := off1_eq t
  funext a; apply Fin.ext
  match a with
  | ⟨0, _⟩ => show k0_off1 (grid0.coords t) (0 : Fin 2) + 1 * 0 = t.val; rw [e]; show t.val + 1 * 0 = _; omega
  | ⟨1, _⟩ => show k0_off1 (grid0.coords t) (1 : Fin 2) + 1 * j.val = j.val; rw [e]; show 0 + 1 * j.val = _; omega

theorem iblk_0 (c : Dev nD) (t : Fin cfg0.N) : iblk m c 0 t = m ((c : Thread nD τ).loc main_arg0) := by
  refine Eq.trans ?_ (V_main_arg0 m c)
  funext j; show V m c main_arg0 (((cfg0.win 0).blk t).view.emb j) = V m c main_arg0 j; rw [emb_0]
theorem iblk_1 (c : Dev nD) (t : Fin cfg0.N) : iblk m c 1 t = m ((c : Thread nD τ).loc main_arg1) := by
  refine Eq.trans ?_ (V_main_arg1 m c)
  funext j; show V m c main_arg1 (((cfg0.win 1).blk t).view.emb j) = V m c main_arg1 j; rw [emb_1]
theorem iblk_3 (c : Dev nD) (t : Fin cfg0.N) : iblk m c 3 t = m ((c : Thread nD τ).loc main_arg3) := by
  refine Eq.trans ?_ (V_main_arg3 m c)
  funext j; show V m c main_arg3 (((cfg0.win 3).blk t).view.emb j) = V m c main_arg3 j; rw [emb_3]
theorem iblk_4 (c : Dev nD) (t : Fin cfg0.N) : iblk m c 4 t = shapeCast S1x256 (m ((c : Thread nD τ).loc main_arg4)) shapeCasts_S256_S1x256 := by
  refine Eq.trans ?_ (V_main_v1 m c)
  funext j; show V m c main_v1 (((cfg0.win 4).blk t).view.emb j) = V m c main_v1 j; rw [emb_4]
theorem iblk_6 (c : Dev nD) (t : Fin cfg0.N) : iblk m c 6 t = m ((c : Thread nD τ).loc main_arg6) := by
  refine Eq.trans ?_ (V_main_arg6 m c)
  funext j; show V m c main_arg6 (((cfg0.win 6).blk t).view.emb j) = V m c main_arg6 j; rw [emb_6]
theorem iblk_7 (c : Dev nD) (t : Fin cfg0.N) : iblk m c 7 t = m ((c : Thread nD τ).loc main_arg7) := by
  refine Eq.trans ?_ (V_main_arg7 m c)
  funext j; show V m c main_arg7 (((cfg0.win 7).blk t).view.emb j) = V m c main_arg7 j; rw [emb_7]
theorem iblk_5 (c : Dev nD) (t : Fin cfg0.N) (r : Fin 2304) (q : Fin 128) (h : 128 * (t.val / 8) + q.val < 512) :
    (iblk m c 5 t : Vec F S2304x128 .i32) (ix2 r q) = (m ((c : Thread nD τ).loc main_arg5) : Vec F S2304x512 .i32) (ix2 r (⟨128 * (t.val / 8) + q.val, h⟩ : Fin 512)) := by
  show V m c main_arg5 (((cfg0.win 5).blk t).view.emb (ix2 r q)) = _
  rw [emb_5 t r q h, V_main_arg5]
theorem iblk_2 (c : Dev nD) (t : Fin cfg0.N) (d : Fin 2048) (j : Fin 256) (h : t.val < 30) :
    (iblk m c 2 t : Vec F S1x2048x256 .i8) (ix3 (0 : Fin 1) d j) = (m ((c : Thread nD τ).loc main_arg2) : Vec F S2048x30x256 .i8) (ix3 d (⟨t.val, h⟩ : Fin 30) j) := by
  show V m c main_v0 (((cfg0.win 2).blk t).view.emb (ix3 (0 : Fin 1) d j)) = _
  rw [emb_2 t d j h, V_main_v0]
  pointwise

/-- A layer's gains are the array's. -/
theorem g_apply (G : Vec F S256 .f32) (j : Fin 256) :
    gP (fun y => shapeCast S1x256 G shapeCasts_S256_S1x256 ((Rect.unit (s := S1x256) ![0, 0] S1x256.size inb_S1x256_S1x256_0_0).emb y)) (ix2 (0 : Fin 1) j) = G (ix1 j) := by
  unfold gP
  rw [shapeCast_self, emb_g]
  pointwise

/-- A layer's weights are the block's. -/
theorem w_apply (W3 : Vec F S1x2048x256 .i8) (d : Fin 2048) (j : Fin 256) :
    wB (fun y => W3 ((Rect.unit (s := S1x2048x256) ![0, 0, 0] S1x2048x256.size inb_S1x2048x256_S1x2048x256_0_0_0).emb y)) (ix2 d j)
      = FloatOps.sitofp .bf16 (W3 (ix3 (0 : Fin 1) d j) : BitVec 8) := by
  unfold wB
  refine congrArg (fun b : BitVec 8 => FloatOps.sitofp .bf16 b) ?_
  refine (shapeCast_apply _ _ (ix2 d j) (ix3 (0 : Fin 1) d j) ?_).trans ?_
  · simp only [Shape.rowMajor_val_two, Shape.rowMajor_val_three, ix2_0, ix2_1]
    show (0 * 2048 + d.val) * 256 + j.val = d.val * 256 + j.val; omega
  · rw [emb_w]

theorem pt_at (c : Dev nD) (l : Fin 30) :
    PtOf (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      l (Iat m c (pt l.val l.isLt)) where
  a := by show BitVec.ofNat 32 (grid0.coords (pt l.val l.isLt) 0).val = _; rw [layer_val]; rfl
  w d j := (w_apply (iblk m c 2 (pt l.val l.isLt)) d j).trans (congrArg (fun b : BitVec 8 => FloatOps.sitofp .bf16 b) (iblk_2 m c (pt l.val l.isLt) d j l.isLt))
  ws j := by
    refine congrArg (fun x : F .f32 => FloatOps.mulf x (Scalar.ofBits .f32 0x3CB504F3#32)) ?_
    exact (congrArg (iblk m c 3 (pt l.val l.isLt) : Vec F S30x256 .f32) (emb_ws (pt l.val l.isLt) j l.isLt)).trans (congrFun (iblk_3 m c (pt l.val l.isLt)) _)
  g j := by
    refine Eq.trans ?_ (g_apply _ j)
    exact congrArg (fun G : Vec F S1x256 .f32 => gP (fun y => G ((Rect.unit (s := S1x256) ![0, 0] S1x256.size inb_S1x256_S1x256_0_0).emb y)) (ix2 (0 : Fin 1) j)) (iblk_4 m c (pt l.val l.isLt))
  EB := congrArg (fun X : Vec F S2304x2048 .i8 => (sitofp .bf16 (X : IVec S2304x2048 8) : FVec F S2304x2048 .bf16)) (iblk_0 m c (pt l.val l.isLt))
  E2 := iblk_1 m c (pt l.val l.isLt)
  W6 r q h := iblk_5 m c (pt l.val l.isLt) r q h
  S7 := iblk_6 m c (pt l.val l.isLt)
  M8 := iblk_7 m c (pt l.val l.isLt)

/-! ## The result arrays -/

/-- The projection's array: layer by layer what the layer's point leaves. -/
def pV (c : Dev nD) : Vec F S6x30x384x256 .f32 := fun x =>
  (Iat m c (pt (x 1).val (x 1).isLt)).P (ix4 (x 0) (0 : Fin 1) (x 2) (x 3))

/-- The codes' array: layer by layer what the layer's point leaves. -/
def cV (c : Dev nD) : Vec F S6x30x384x256 .i8 := fun x =>
  (Iat m c (pt (x 1).val (x 1).isLt)).C (ix4 (x 0) (0 : Fin 1) (x 2) (x 3))

theorem emb_8 (t : Fin cfg0.N) (y : S6x1x384x256.Idx) (h : t.val < 30) :
    ((cfg0.win 8).blk t).view.emb y = (ix4 (y 0) (⟨t.val, h⟩ : Fin 30) (y 2) (y 3) : S6x30x384x256.Idx) := by
  have e := ix_8 t
  have h1 : (y 1).val < 1 := (y 1).isLt
  funext a; apply Fin.ext
  match a with
  | ⟨0, _⟩ => show win0_8.index t (0 : Fin 4) * 6 + 1 * (y 0).val = (y 0).val; rw [e]; show 0 * 6 + _ = _; omega
  | ⟨1, _⟩ => show win0_8.index t (1 : Fin 4) * 1 + 1 * (y 1).val = t.val; rw [e]; show t.val * 1 + 1 * (y 1).val = _; omega
  | ⟨2, _⟩ => show win0_8.index t (2 : Fin 4) * 384 + 1 * (y 2).val = (y 2).val; rw [e]; show 0 * 384 + _ = _; omega
  | ⟨3, _⟩ => show win0_8.index t (3 : Fin 4) * 256 + 1 * (y 3).val = (y 3).val; rw [e]; show 0 * 256 + _ = _; omega
theorem emb_10 (t : Fin cfg0.N) (y : S6x1x384x256.Idx) (h : t.val < 30) :
    ((cfg0.win 10).blk t).view.emb y = (ix4 (y 0) (⟨t.val, h⟩ : Fin 30) (y 2) (y 3) : S6x30x384x256.Idx) := by
  have e := ix_10 t
  have h1 : (y 1).val < 1 := (y 1).isLt
  funext a; apply Fin.ext
  match a with
  | ⟨0, _⟩ => show win0_10.index t (0 : Fin 4) * 6 + 1 * (y 0).val = (y 0).val; rw [e]; show 0 * 6 + _ = _; omega
  | ⟨1, _⟩ => show win0_10.index t (1 : Fin 4) * 1 + 1 * (y 1).val = t.val; rw [e]; show t.val * 1 + 1 * (y 1).val = _; omega
  | ⟨2, _⟩ => show win0_10.index t (2 : Fin 4) * 384 + 1 * (y 2).val = (y 2).val; rw [e]; show 0 * 384 + _ = _; omega
  | ⟨3, _⟩ => show win0_10.index t (3 : Fin 4) * 256 + 1 * (y 3).val = (y 3).val; rw [e]; show 0 * 256 + _ = _; omega

theorem unit1 (y : S6x1x384x256.Idx) : y = ix4 (y 0) (0 : Fin 1) (y 2) (y 3) := by
  have h1 : (y 1).val < 1 := (y 1).isLt
  funext a; apply Fin.ext
  match a with
  | ⟨0, _⟩ => rfl
  | ⟨1, _⟩ => show (y 1).val = 0; omega
  | ⟨2, _⟩ => rfl
  | ⟨3, _⟩ => rfl

theorem final_8 (c : Dev nD) : (dats m 0 c).arrAt 8 cfg0.N = pV m c := by
  refine (dats m 0 c).arrAt_eq_of_covers 8 _ (by decide +kernel) fun t hf (y : S6x1x384x256.Idx) => ?_
  have ht : t.val < 30 := Nat.lt_of_lt_of_eq t.isLt N_0
  rw [emb_8 t y ht]
  show (dats m 0 c).after 8 t y = _
  rw [after_8]
  show (Iat m c t).P y = (Iat m c t).P (ix4 (y 0) (0 : Fin 1) (y 2) (y 3))
  exact congrArg _ (unit1 y)

theorem final_10 (c : Dev nD) : (dats m 0 c).arrAt 10 cfg0.N = cV m c := by
  refine (dats m 0 c).arrAt_eq_of_covers 10 _ (by decide +kernel) fun t hf (y : S6x1x384x256.Idx) => ?_
  have ht : t.val < 30 := Nat.lt_of_lt_of_eq t.isLt N_0
  rw [emb_10 t y ht]
  show (dats m 0 c).after 10 t y = _
  rw [after_10]
  show (Iat m c t).C y = (Iat m c t).C (ix4 (y 0) (0 : Fin 1) (y 2) (y 3))
  exact congrArg _ (unit1 y)

theorem final_9 (c : Dev nD) : (dats m 0 c).arrAt 9 cfg0.N = segV m c := by
  refine (dats m 0 c).arrAt_eq_of_after_last 9 (pt 29 (by decide)) (by decide +kernel) _ fun (j : S6x30x384.Idx) => ?_
  show (dats m 0 c).after 9 _ j = segV m c j
  rw [after_9]

theorem final_11 (c : Dev nD) : (dats m 0 c).arrAt 11 cfg0.N = csV m c := by
  refine (dats m 0 c).arrAt_eq_of_after_last 11 (pt 29 (by decide)) (by decide +kernel) _ fun (j : S6x30x384.Idx) => ?_
  show (dats m 0 c).after 11 _ j = csV m c j
  rw [after_11]

/-- The run's results, and the arguments as they were. -/
theorem run : θ_run defs (onTc (τ := τ) (main (F := F))) ⟨m, fun _ => 0, ρ⟩ fun r => ∀ c : Dev nD,
      r.2.mem ((c : Thread nD τ).loc main_v2_0) = pV m c
      ∧ r.2.mem ((c : Thread nD τ).loc main_v2_1) = segV m c
      ∧ r.2.mem ((c : Thread nD τ).loc main_v2_2) = cV m c
      ∧ r.2.mem ((c : Thread nD τ).loc main_v2_3) = csV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 8).trans (final_8 m c), ((h.1 c).1 9).trans (final_9 m c), ((h.1 c).1 10).trans (final_10 m c),
      ((h.1 c).1 11).trans (final_11 m c), h.2 c⟩)
    (θ_run_and (run_post m ρ) (frame_of m ρ (dats m) (A_eq m) (run_post m ρ)))

end Cert.KernelIdeal.Hand

end
-- ==== Proof.Spec.lean ====
/- The projection call's results over the extended reals, entry by entry, as functions of the eight argument arrays. -/
module

public import proofs.«01_k».proof.Proof.Ops
public import Idealize.ShloMosaic.Lib.Pointwise

@[expose] public section

set_option maxRecDepth 16384

noncomputable section

namespace Cert.Spec

open Idealize.ShloMosaic Idealize.SL.Sem
open Cert.KernelIdeal

/-- The eight argument arrays. -/
structure Args where
  /-- the codes of the tokens -/
  a0 : Vec Ideal S2304x2048 .i8
  /-- the tokens' scales, on lane 0 -/
  a1 : Vec Ideal S2304x128 .f32
  /-- the weights' codes -/
  a2 : Vec Ideal S2048x30x256 .i8
  /-- the weights' scales -/
  a3 : Vec Ideal S30x256 .f32
  /-- the gains -/
  a4 : Vec Ideal S256 .f32
  /-- the packed table rows, four bytes a word -/
  a5 : Vec Ideal S2304x512 .i32
  /-- the scales of the table rows -/
  a6 : Vec Ideal S2304x128 .f32
  /-- the minima of the table rows -/
  a7 : Vec Ideal S2304x128 .f32

/-- A literal of the programs. -/
def lit (w : BitVec 32) : Ideal .f32 := Scalar.ofBits .f32 w

namespace Args

variable (A : Args)

/-- The projection of token `r` in layer `l` at channel `j`. -/
def p (r : Fin 2304) (l : Fin 30) (j : Fin 256) : Ideal .f32 :=
  (∑ d : Fin 2048, (FloatOps.sitofp .bf16 (A.a0 (ix2 r d) : BitVec 8) : Ideal .bf16) * (FloatOps.sitofp .bf16 (A.a2 (ix3 d l j) : BitVec 8) : Ideal .bf16))
    * A.a1 (ix2 r (0 : Fin 128)) * A.a3 (ix2 l j) * lit 0x3CB504F3#32

/-- The sum of the squares of a token's projection. -/
def sq (r : Fin 2304) (l : Fin 30) : Ideal .f32 := ∑ j : Fin 256, A.p r l j * A.p r l j

/-- The root mean square of a token's projection. -/
def rms (r : Fin 2304) (l : Fin 30) : Ideal .f32 := Ideal.sqrt (Ideal.div (A.sq r l) (lit 0x43800000#32) + lit 0x358637BD#32)

/-- The word that holds the byte of channel `j`. -/
def word (r : Fin 2304) (l : Fin 30) (j : Fin 256) : BitVec 32 :=
  A.a5 (ix2 r (⟨16 * l.val + j.val % 64 / 4, by have := l.isLt; omega⟩ : Fin 512))

/-- The byte's two bits that belong to channel `j`. -/
def field (r : Fin 2304) (l : Fin 30) (j : Fin 256) : BitVec 32 :=
  (((A.word r l j).sshiftRight (8 * (j.val % 4)) &&& 255#32).sshiftRight (2 * (j.val / 64))) &&& 3#32

/-- The lane of the scale tables that belongs to channel `j`. -/
def quarter (l : Fin 30) (j : Fin 256) : Fin 128 := ⟨4 * l.val + j.val / 64, by have := l.isLt; have := j.isLt; omega⟩

/-- The combination of the normalised projection with the dequantised table row. -/
def comb (r : Fin 2304) (l : Fin 30) (j : Fin 256) : Ideal .f32 :=
  Ideal.div (A.p r l j) (A.rms r l) * A.a4 (ix1 j) * lit 0x3F3504F3#32
    + ((FloatOps.sitofp .f32 (A.field r l j) : Ideal .f32) * A.a6 (ix2 r (quarter l j)) + A.a7 (ix2 r (quarter l j)))

/-- The largest magnitude of a token's combination. -/
def amax (r : Fin 2304) (l : Fin 30) : Ideal .f32 :=
  (Finset.univ : Finset (Fin 256)).fold max (lit 0xFF800000#32) fun j => max (A.comb r l j) (-(A.comb r l j))

/-- The quantiser's scale of a token. -/
def scale (r : Fin 2304) (l : Fin 30) : Ideal .f32 :=
  Scalar.select (FloatOps.cmpf .oeq (A.amax r l) (lit 0x00000000#32)) (lit 0x3F800000#32) (Ideal.div (A.amax r l) (lit 0x42FE0000#32))

/-- A quotient rounded to a code. -/
def toCode (x : Ideal .f32) : BitVec 8 :=
  FloatOps.fptosi 8 (FloatOps.minimumf (Scalar.sitofp .f32 127#32) (FloatOps.maximumf (Scalar.sitofp .f32 4294967169#32) (FloatOps.roundeven x)))

/-- The code of a token's channel. -/
def code (r : Fin 2304) (l : Fin 30) (j : Fin 256) : BitVec 8 := toCode (Ideal.div (A.comb r l j) (A.scale r l))

end Args

end Cert.Spec

end
-- ==== Proof.KerP.lean ====
/- The kernel's projection and root mean square of a tile are the specification's. -/
module

public import proofs.«01_k».proof.Proof.IdealArrays
public import proofs.«01_k».proof.Proof.Spec

@[expose] public section

set_option maxRecDepth 16384

noncomputable section

namespace Cert.KernelIdeal.Hand

open Idealize.ShloMosaic Idealize.SL.Sem
open Cert.KernelIdeal Cert.KernelIdeal.Gen Cert.Spec

variable (A : Args) (l : Fin 30) (I : In Ideal)

/-- The point's values are those of layer `l`. -/
abbrev Of : Prop := PtOf A.a0 A.a1 A.a2 A.a3 A.a4 A.a5 A.a6 A.a7 l I

/-- The token at row `i` of a tile. -/
def tok (b k : ℕ) (hb : b < 6) (hk : k < 6) (i : Fin 64) : Fin 2304 := ⟨384 * b + 64 * k + i.val, by have := i.isLt; omega⟩

variable {A l I} (b k : ℕ) (hb : b < 6) (hk : k < 6)

/-- A position of a row's block of the codes. -/
theorem eE (i : Fin 64) (y : Fin 2048) :
    (Rect.unit (s := S2304x2048) ![384 * b, 0] S384x2048.size (inbE b hb)).emb (ix2 (⟨64 * k + i.val, by omega⟩ : Fin 384) y) = ix2 (tok b k hb hk i) y := by
  funext a; apply Fin.ext
  match a with
  | ⟨0, _⟩ => show 384 * b + 1 * (64 * k + i.val) = 384 * b + 64 * k + i.val; omega
  | ⟨1, _⟩ => show 0 + 1 * y.val = y.val; omega

/-- A position of a tile's column of the scales. -/
theorem eC (i : Fin 64) (y : Fin 1) :
    (Rect.unit (s := S2304x128) ![384 * b + 64 * k, 0] S64x1.size (inbCol b k hb hk)).emb (ix2 i y) = ix2 (tok b k hb hk i) (0 : Fin 128) := by
  funext a; apply Fin.ext
  match a with
  | ⟨0, _⟩ => show 384 * b + 64 * k + 1 * i.val = 384 * b + 64 * k + i.val; omega
  | ⟨1, _⟩ => show 0 + 1 * y.val = 0; omega

/-- A position of a tile's rows of a table. -/
theorem eR (i : Fin 64) (y : Fin 128) :
    (Rect.unit (s := S2304x128) ![384 * b + 64 * k, 0] S64x128.size (inbRow b k hb hk)).emb (ix2 i y) = ix2 (tok b k hb hk i) y := by
  funext a; apply Fin.ext
  match a with
  | ⟨0, _⟩ => show 384 * b + 64 * k + 1 * i.val = 384 * b + 64 * k + i.val; omega
  | ⟨1, _⟩ => show 0 + 1 * y.val = y.val; omega

/-- The projection of a tile. -/
theorem p_at (h : Of A l I) (i : Fin 64) (j : Fin 256) : I.p b k hb hk (ix2 i j) = A.p (tok b k hb hk i) l j := by
  unfold In.p pT In.acc accP
  pointwise
  rw [h.EB, h.E2, h.ws]
  unfold Args.p
  rw [mul_assoc _ (A.a3 (ix2 l j)) _]
  refine congrArg₂ (fun x y : EReal => x * y) (congrArg₂ (fun x y : EReal => x * y) (Finset.sum_congr rfl fun y _ => ?_) (congrArg A.a1 (eC b k hb hk i 0))) rfl
  rw [h.w]
  exact congrArg (fun z => (FloatOps.sitofp .bf16 (A.a0 z : BitVec 8) : Ideal .bf16) * (FloatOps.sitofp .bf16 (A.a2 (ix3 y l j) : BitVec 8) : Ideal .bf16)) (eE b k hb hk i y)

/-! ### Literals -/

theorem lit_256 : lit 0x43800000#32 = ((256 : ℝ) : EReal) := by
  show Ideal.ofBits .f32 0x43800000#32 = _
  simp [Ideal.ofBits, Ideal.ieee]
  rw [← EReal.coe_mul]
  norm_num
theorem lit_inv256 : lit 0x3B800000#32 = ((1 / 256 : ℝ) : EReal) := by
  show Ideal.ofBits .f32 0x3B800000#32 = _
  simp [Ideal.ofBits, Ideal.ieee]
  rw [← EReal.coe_mul]
  norm_num
theorem lit_127 : lit 0x42FE0000#32 = ((127 : ℝ) : EReal) := by
  show Ideal.ofBits .f32 0x42FE0000#32 = _
  simp [Ideal.ofBits, Ideal.ieee]
  rw [← EReal.coe_mul]
  norm_num
theorem lit_eps : (0 : EReal) < lit 0x358637BD#32 := by
  show (0 : EReal) < Ideal.ofBits .f32 0x358637BD#32
  simp [Ideal.ofBits, Ideal.ieee]
  rw [← EReal.coe_mul]
  exact EReal.coe_pos.mpr (by positivity)

/-- A quotient by a nonzero real is the product with its reciprocal. -/
theorem div_real (x : EReal) (c : ℝ) (hc : c ≠ 0) : Ideal.div x (c : EReal) = x * ((1 / c : ℝ) : EReal) := by
  unfold Ideal.div
  rw [if_neg (by exact_mod_cast hc), ← EReal.coe_inv, one_div]

/-- The root mean squares of a tile. -/
theorem rms_at (h : Of A l I) (i : Fin 64) : I.rms b k hb hk (ix2 i (0 : Fin 1)) = A.rms (tok b k hb hk i) l := by
  unfold In.rms rmsT
  pointwise
  unfold Args.rms Args.sq
  rw [lit_256, div_real _ _ (by norm_num), ← lit_inv256]
  rw [Finset.sum_congr rfl fun j _ => congrArg (fun z : EReal => z * z) (p_at b k hb hk h i j)]
  rfl

theorem sq_nonneg (r : Fin 2304) : 0 ≤ A.sq r l := by
  refine Finset.sum_nonneg fun j _ => ?_
  rcases le_total 0 (A.p r l j : EReal) with hp | hp
  · exact mul_nonneg hp hp
  · have hn : (0 : EReal) ≤ -(A.p r l j : EReal) := by rw [← neg_zero]; exact EReal.neg_le_neg_iff.mpr hp
    have := mul_nonneg hn hn
    rwa [neg_mul_neg] at this

/-- A root mean square is not zero. -/
theorem rms_ne (r : Fin 2304) : A.rms r l ≠ (0 : EReal) := by
  unfold Args.rms
  have h : (0 : EReal) < Ideal.div (A.sq r l) (lit 0x43800000#32) + lit 0x358637BD#32 := by
    rw [lit_256, div_real _ _ (by norm_num)]
    refine lt_of_lt_of_le lit_eps ?_
    exact le_add_of_nonneg_left (mul_nonneg (sq_nonneg r) (by exact_mod_cast (by norm_num : (0 : ℝ) ≤ 1 / 256)))
  generalize Ideal.div (A.sq r l) (lit 0x43800000#32) + lit 0x358637BD#32 = x at h
  induction x using EReal.rec with
  | bot => simp at h
  | top =>
    show (⊤ : EReal) ≠ 0
    simp
  | coe x =>
    have hx : 0 < x := by exact_mod_cast h
    have : ¬ x < 0 := not_lt.mpr hx.le
    show (if x < 0 then (⊥ : EReal) else (Real.sqrt x : EReal)) ≠ 0
    rw [if_neg this]
    exact_mod_cast (Real.sqrt_pos.mpr hx).ne'

end Cert.KernelIdeal.Hand

end
-- ==== Proof.Shift.lean ====
/- Shifts and masks of words: the body's arithmetic shift by less than the width, and two bits of a byte of a word. -/
module

public import proofs.«01_k».proof.Proof.Spec

@[expose] public section

set_option maxRecDepth 16384

namespace Cert.Spec

open Idealize.ShloMosaic

/-- A shift by less than the width. -/
theorem shr_eq (x : BitVec 32) (n : ℕ) (hn : n < 32) : IntOp.shrsi .vector x (BitVec.ofNat 32 n) = x.sshiftRight n := by
  have e : (BitVec.ofNat 32 n).toNat = n := by rw [BitVec.toNat_ofNat]; exact Nat.mod_eq_of_lt (by omega)
  show (if (BitVec.ofNat 32 n).toNat < 32 then x.sshiftRight' (BitVec.ofNat 32 n) else _) = _
  rw [if_pos (by omega)]
  show x.sshiftRight (BitVec.ofNat 32 n).toNat = _
  rw [e]

theorem mul_eq (c n : ℕ) : IntOp.muli (BitVec.ofNat 32 c) (BitVec.ofNat 32 n) = BitVec.ofNat 32 (c * n) := by
  show BitVec.ofNat 32 c * BitVec.ofNat 32 n = _
  exact (BitVec.ofNat_mul ..).symm

theorem add_eq (c n : ℕ) : IntOp.addi (BitVec.ofNat 32 c) (BitVec.ofNat 32 n) = BitVec.ofNat 32 (c + n) := by
  show BitVec.ofNat 32 c + BitVec.ofNat 32 n = _
  exact (BitVec.ofNat_add ..).symm

/-- Two bits of a byte of a word are two bits of the word. -/
theorem field_bits (x : BitVec 32) (c q : ℕ) (hc : c < 4) (hq : q < 4) :
    (x.sshiftRight (8 * c) &&& 255#32).sshiftRight (2 * q) &&& 3#32 = x.sshiftRight (8 * c + 2 * q) &&& 3#32 := by
  have h3 : ∀ i : ℕ, (3#32).getLsbD i = decide (i < 2) := fun i => by
    by_cases hi : i < 32
    · interval_cases i <;> rfl
    · rw [BitVec.getLsbD_of_ge _ _ (by omega)]; simp; omega
  have h255 : ∀ i : ℕ, (255#32).getLsbD i = decide (i < 8) := fun i => by
    by_cases hi : i < 32
    · interval_cases i <;> rfl
    · rw [BitVec.getLsbD_of_ge _ _ (by omega)]; simp; omega
  refine BitVec.eq_of_getLsbD_eq fun i hi => ?_
  rw [BitVec.getLsbD_and, BitVec.getLsbD_and, h3]
  by_cases h : i < 2
  · simp only [h, decide_true, Bool.and_true]
    rw [BitVec.getLsbD_sshiftRight, BitVec.getLsbD_sshiftRight, if_pos (by omega : 2 * q + i < 32), if_pos (by omega : 8 * c + 2 * q + i < 32),
      BitVec.getLsbD_and, h255, BitVec.getLsbD_sshiftRight, if_pos (by omega : 8 * c + (2 * q + i) < 32)]
    simp only [show ¬ 32 ≤ i by omega, show ¬ 32 ≤ 2 * q + i by omega, show 2 * q + i < 8 by omega, decide_true, decide_false, Bool.not_false, Bool.true_and, Bool.and_true]
    congr 1; omega
  · simp [h]

end Cert.Spec

end
-- ==== Proof.KerC.lean ====
/- The kernel's table rows, combination, scale and codes of a tile are the specification's. -/
module

public import proofs.«01_k».proof.Proof.KerP
public import proofs.«01_k».proof.Proof.Shift

@[expose] public section

set_option maxRecDepth 16384

noncomputable section

namespace Cert.KernelIdeal.Hand

open Idealize.ShloMosaic Idealize.SL.Sem
open Cert.KernelIdeal Cert.KernelIdeal.Gen Cert.Spec

variable {A : Args} {l : Fin 30} {I : In Ideal}

/-- A lane's word: lane `q` of layer `l` reads the word of its byte. -/
theorem wv_at (v : Vec Ideal S64x128 .i32) (i : Fin 64) (q : Fin 128) :
    wvT (F := Ideal) (BitVec.ofNat 32 l.val) v (ix2 i q) = v (ix2 i (⟨16 * (l.val % 8) + q.val % 64 / 4, by omega⟩ : Fin 128)) := by
  unfold wvT fixIdx wordIdx lane
  pointwise
  refine congrArg v (congrArg (ix2 i) (Fin.ext ?_))
  dsimp only
  clear v i
  revert l q
  decide +kernel

/-- A lane's two bits. -/
theorem fld_at (n : ℕ) (hn : n = 0 ∨ n = 4) (v : IVec S64x128 32) (i : Fin 64) (q : Fin 128) :
    fieldT (F := Ideal) (BitVec.ofNat 32 n) v (ix2 i q) = FloatOps.sitofp .f32 ((v (ix2 i q)).sshiftRight (8 * (q.val % 4) + 2 * (q.val / 64) + n) &&& 3#32) := by
  unfold fieldT shift0 lane
  pointwise
  have e : IntOp.addi (IntOp.addi (IntOp.muli 8#32 (IntOp.andi (BitVec.ofNat 32 q.val) 3#32)) (IntOp.muli 2#32 (IntOp.shrsi .vector (BitVec.ofNat 32 q.val) 6#32))) (BitVec.ofNat 32 n)
      = BitVec.ofNat 32 (8 * (q.val % 4) + 2 * (q.val / 64) + n) := by
    clear v i
    rcases hn with rfl | rfl
    · revert q; decide +kernel
    · revert q; decide +kernel
  rw [e, shr_eq _ _ (by omega)]
  rfl

/-- A lane's table entry. -/
theorem qt_at (n : ℕ) (hn : n = 0 ∨ n = 2) (v : Vec Ideal S64x128 .f32) (i : Fin 64) (q : Fin 128) :
    quarterT (F := Ideal) (BitVec.ofNat 32 l.val) (BitVec.ofNat 32 n) v (ix2 i q) = v (ix2 i (⟨4 * l.val + q.val / 64 + n, by omega⟩ : Fin 128)) := by
  unfold quarterT fixIdx qIdx lane
  pointwise
  refine congrArg v (congrArg (ix2 i) (Fin.ext ?_))
  dsimp only
  clear v i
  rcases hn with rfl | rfl
  · revert l q; decide +kernel
  · revert l q; decide +kernel

/-- A half of the combination in scalars. -/
theorem cb_at (h : ℕ) (hh : h < 2) (p : FVec Ideal S64x256 .f32) (rms : FVec Ideal S64x1 .f32) (g : FVec Ideal S1x256 .f32) (f s m : FVec Ideal S64x128 .f32)
    (i : Fin 64) (q : Fin 128) :
    combT h hh p (invT rms) g f s m (ix2 i q)
      = p (ix2 i (⟨128 * h + q.val, by omega⟩ : Fin 256)) * Ideal.div (lit 0x3F3504F3#32) (rms (ix2 i 0)) * g (ix2 0 (⟨128 * h + q.val, by omega⟩ : Fin 256))
        + (f (ix2 i q) * s (ix2 i q) + m (ix2 i q)) := by
  unfold combT invT
  pointwise
  rfl

variable (b k : ℕ) (hb : b < 6) (hk : k < 6)

/-- The normalised, weighted and damped value: the factor `2 ^ (-1/2)` over the root mean square, taken out. -/
theorem norm_eq (p r g c : EReal) (hr : r ≠ 0) : p * Ideal.div c r * g = Ideal.div p r * g * c := by
  unfold Ideal.div
  rw [if_neg hr, if_neg hr, mul_comm c r⁻¹, ← mul_assoc p, mul_assoc _ c g, mul_comm c g, ← mul_assoc]

/-- The rows of a tile of a table, read at a position. -/
theorem rows_at {e : EltTy} (X : Vec Ideal S2304x128 e) (i : Fin 64) (q : Fin 128) : In.rows b k hb hk X (ix2 i q) = X (ix2 (tok b k hb hk i) q) :=
  congrArg X (eR b k hb hk i q)

/-- A half of a tile's combination is the specification's. -/
theorem half_at (hO : Of A l I) (h : ℕ) (hh : h < 2) (i : Fin 64) (q : Fin 128) :
    combT h hh (I.p b k hb hk) (invT (I.rms b k hb hk)) I.g (fieldT (BitVec.ofNat 32 (4 * h)) (wvT (F := Ideal) I.a (In.rows b k hb hk I.W6)))
        (quarterT I.a (BitVec.ofNat 32 (2 * h)) (In.rows b k hb hk I.S7)) (quarterT I.a (BitVec.ofNat 32 (2 * h)) (In.rows b k hb hk I.M8)) (ix2 i q)
      = A.comb (tok b k hb hk i) l ⟨128 * h + q.val, by omega⟩ := by
  have hl := l.isLt
  have hq := q.isLt
  have h4 : 4 * h = 0 ∨ 4 * h = 4 := by omega
  have h2 : 2 * h = 0 ∨ 2 * h = 2 := by omega
  rw [cb_at, hO.a, fld_at (4 * h) h4, wv_at, qt_at (2 * h) h2, qt_at (2 * h) h2, rows_at, rows_at, rows_at, p_at b k hb hk hO, rms_at b k hb hk hO,
    hO.S7, hO.M8, hO.g, hO.W6 _ _ (by omega), norm_eq _ _ _ _ (rms_ne _)]
  unfold Args.comb Args.field Args.word Args.quarter
  dsimp only
  rw [field_bits _ _ _ (by omega) (by omega)]
  have e1 : 8 * ((128 * h + q.val) % 4) + 2 * ((128 * h + q.val) / 64) = 8 * (q.val % 4) + 2 * (q.val / 64) + 4 * h := by omega
  have e2 : (⟨16 * l.val + (128 * h + q.val) % 64 / 4, by omega⟩ : Fin 512) = ⟨128 * (l.val / 8) + (16 * (l.val % 8) + q.val % 64 / 4), by omega⟩ := Fin.ext (by
    show 16 * l.val + (128 * h + q.val) % 64 / 4 = 128 * (l.val / 8) + (16 * (l.val % 8) + q.val % 64 / 4); omega)
  have e3 : (⟨4 * l.val + (128 * h + q.val) / 64, by omega⟩ : Fin 128) = ⟨4 * l.val + q.val / 64 + 2 * h, by omega⟩ := Fin.ext (by
    show 4 * l.val + (128 * h + q.val) / 64 = 4 * l.val + q.val / 64 + 2 * h; omega)
  rw [e1, e2, e3]

theorem c0_at (hO : Of A l I) (i : Fin 64) (q : Fin 128) : I.c0 b k hb hk (ix2 i q) = A.comb (tok b k hb hk i) l ⟨128 * 0 + q.val, by omega⟩ :=
  half_at b k hb hk hO 0 (by decide) i q
theorem c1_at (hO : Of A l I) (i : Fin 64) (q : Fin 128) : I.c1 b k hb hk (ix2 i q) = A.comb (tok b k hb hk i) l ⟨128 * 1 + q.val, by omega⟩ :=
  half_at b k hb hk hO 1 (by decide) i q

/-! ### The scale -/

/-- The largest of the magnitudes of the two halves, as a fold over the lanes. -/
theorem max_at (c0 c1 : FVec Ideal S64x128 .f32) (i : Fin 64) :
    shapeCast S64x1 (multiReduction .maximumf [1] S64 (maximumf (absf c0) (absf c1)) 0xFF800000#32 reduces_S64x128_S64 (.inl rfl) rfl) shapeCasts_S64_S64x1 (ix2 i (0 : Fin 1))
      = (Finset.univ : Finset (Fin 128)).fold max (lit 0xFF800000#32) fun x => (max (max (c0 (ix2 i x)) (-(c0 (ix2 i x)))) (max (c1 (ix2 i x)) (-(c1 (ix2 i x)))) : EReal) := by
  pointwise
  rfl

/-- The scale in the model's own operations. -/
theorem scale_gen {F : FTy → Type} [FloatOps F] [Named F] (c0 c1 : FVec F S64x128 .f32) (i : S64x1.Idx) :
    scaleT c0 c1 i = Scalar.select (FloatOps.cmpf .oeq (shapeCast S64x1 (multiReduction .maximumf [1] S64 (maximumf (absf c0) (absf c1)) 0xFF800000#32 reduces_S64x128_S64 (.inl rfl) rfl) shapeCasts_S64_S64x1 i) (Scalar.ofBits .f32 0x00000000#32))
      (Scalar.ofBits .f32 0x3F800000#32)
      (FloatOps.mulf (shapeCast S64x1 (multiReduction .maximumf [1] S64 (maximumf (absf c0) (absf c1)) 0xFF800000#32 reduces_S64x128_S64 (.inl rfl) rfl) shapeCasts_S64_S64x1 i) (Named.named κ "inv127" 0x3C010204#32)) := rfl

/-- The named constant is the reciprocal of 127. -/
theorem inv127 : (Named.named (F := Ideal) κ "inv127" (φ := .f32) 0x3C010204#32 : EReal) = ((1 / 127 : ℝ) : EReal) :=
  IdealRules.named_const.ideal_named_scalar _ _ _ _ rfl

theorem scale_mul (x : EReal) : Scalar.select (FloatOps.cmpf (F := Ideal) (φ := .f32) .oeq x (lit 0x00000000#32)) (lit 0x3F800000#32) (x * ((1 / 127 : ℝ) : EReal))
    = Scalar.select (FloatOps.cmpf (F := Ideal) (φ := .f32) .oeq x (lit 0x00000000#32)) (lit 0x3F800000#32) (Ideal.div x (lit 0x42FE0000#32)) := by
  rw [lit_127, div_real _ _ (by norm_num)]

/-- The scale of a tile's tokens. -/
theorem sc_at (hO : Of A l I) (i : Fin 64) : I.sc b k hb hk (ix2 i (0 : Fin 1)) = A.scale (tok b k hb hk i) l := by
  unfold In.sc
  rw [scale_gen, inv127, max_at]
  have e : ((Finset.univ : Finset (Fin 128)).fold max (lit 0xFF800000#32) fun x =>
      (max (max (I.c0 b k hb hk (ix2 i x)) (-(I.c0 b k hb hk (ix2 i x)))) (max (I.c1 b k hb hk (ix2 i x)) (-(I.c1 b k hb hk (ix2 i x)))) : EReal)) = A.amax (tok b k hb hk i) l := by
    unfold Args.amax
    apply le_antisymm
    · refine (Finset.fold_max_le _).mpr ⟨(Finset.le_fold_max _).mpr (.inl le_rfl), fun x _ => ?_⟩
      rw [c0_at b k hb hk hO, c1_at b k hb hk hO]
      exact max_le ((Finset.le_fold_max _).mpr (.inr ⟨_, Finset.mem_univ _, le_rfl⟩)) ((Finset.le_fold_max _).mpr (.inr ⟨_, Finset.mem_univ _, le_rfl⟩))
    · refine (Finset.fold_max_le _).mpr ⟨(Finset.le_fold_max _).mpr (.inl le_rfl), fun j _ => (Finset.le_fold_max _).mpr (.inr ⟨⟨j.val % 128, Nat.mod_lt _ (by decide)⟩, Finset.mem_univ _, ?_⟩)⟩
      rw [c0_at b k hb hk hO, c1_at b k hb hk hO]
      by_cases hj : j.val < 128
      · have ej : (⟨128 * 0 + j.val % 128, by omega⟩ : Fin 256) = j := Fin.ext (by show 128 * 0 + j.val % 128 = j.val; omega)
        rw [ej]
        exact le_max_left _ _
      · have ej : (⟨128 * 1 + j.val % 128, by omega⟩ : Fin 256) = j := Fin.ext (by show 128 * 1 + j.val % 128 = j.val; omega)
        rw [ej]
        exact le_max_right _ _
  rw [e]
  unfold Args.scale
  exact scale_mul _

/-- The codes of a half in scalars. -/
theorem codes_at (c : FVec Ideal S64x128 .f32) (sc : FVec Ideal S64x1 .f32) (i : Fin 64) (q : Fin 128) :
    codesT c sc (ix2 i q) = Args.toCode (Ideal.div (c (ix2 i q)) (sc (ix2 i 0))) := by
  have e : broadcastTo S64x128 sc broadcasts_S64x1_S64x128 (ix2 i q) = sc (ix2 i 0) := by pointwise
  rw [← e]
  rfl

/-- The codes of a tile. -/
theorem code_at (hO : Of A l I) (h : ℕ) (hh : h < 2) (i : Fin 64) (q : Fin 128) :
    I.code b k hb hk h (ix2 i q) = A.code (tok b k hb hk i) l ⟨128 * h + q.val, by omega⟩ := by
  unfold In.code
  interval_cases h
  · rw [if_pos rfl, codes_at, sc_at b k hb hk hO, c0_at b k hb hk hO]; rfl
  · rw [if_neg (by decide), codes_at, sc_at b k hb hk hO, c1_at b k hb hk hO]; rfl

end Cert.KernelIdeal.Hand

end
-- ==== Proof.IdealResults.lean ====
/- The idealized kernel's four arrays at an index are the specification's projection, root mean square, code and scale. -/
module

public import proofs.«01_k».proof.Proof.KerC

@[expose] public section

set_option maxRecDepth 16384

noncomputable section

namespace Cert.KernelIdeal.Hand

open Idealize.ShloMosaic Idealize.SL.Sem
open Cert.KernelIdeal Cert.KernelIdeal.Gen Cert.Spec

variable (m : (ℓ : Loc nD τ sig) → Buf (Elt Ideal) ℓ)

/-- The arguments of device `c`. -/
def args (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)

theorem of_at (c : Dev nD) (l : Fin 30) : Of (args m c) l (Iat m c (pt l.val l.isLt)) := pt_at m c l

/-- The first result: the projection. -/
theorem pV_at (c : Dev nD) (b : Fin 6) (l : Fin 30) (s : Fin 384) (j : Fin 256) :
    pV m c (ix4 b l s j) = (args m c).p ⟨384 * b.val + s.val, by omega⟩ l j := by
  refine (p_at b.val (s.val / 64) b.isLt (by omega) (of_at m c l) (⟨s.val % 64, by omega⟩ : Fin 64) j).trans ?_
  exact congrArg (fun r => (args m c).p r l j) (Fin.ext (by show 384 * b.val + 64 * (s.val / 64) + s.val % 64 = 384 * b.val + s.val; omega))

/-- The third result: the codes. -/
theorem cV_at (c : Dev nD) (b : Fin 6) (l : Fin 30) (s : Fin 384) (j : Fin 256) :
    cV m c (ix4 b l s j) = (args m c).code ⟨384 * b.val + s.val, by omega⟩ l j := by
  refine (code_at b.val (s.val / 64) b.isLt (by omega) (of_at m c l) (j.val / 128) (by omega) (⟨s.val % 64, by omega⟩ : Fin 64) (⟨j.val % 128, by omega⟩ : Fin 128)).trans ?_
  exact congrArg₂ (fun r q => (args m c).code r l q) (Fin.ext (by show 384 * b.val + 64 * (s.val / 64) + s.val % 64 = 384 * b.val + s.val; omega))
    (Fin.ext (by show 128 * (j.val / 128) + j.val % 128 = j.val; omega))

/-- The second result: the root mean squares. -/
theorem segV_at (c : Dev nD) (b : Fin 6) (l : Fin 30) (s : Fin 384) :
    segV m c (ix3 b l s) = (args m c).rms ⟨384 * b.val + s.val, by omega⟩ l := by
  refine (rms_at ((384 * b.val + s.val) / 384) ((384 * b.val + s.val) % 384 / 64) (by omega) (by omega) (of_at m c l) (⟨(384 * b.val + s.val) % 64, by omega⟩ : Fin 64)).trans ?_
  exact congrArg (fun r => (args m c).rms r l) (Fin.ext (by
    show 384 * ((384 * b.val + s.val) / 384) + 64 * ((384 * b.val + s.val) % 384 / 64) + (384 * b.val + s.val) % 64 = 384 * b.val + s.val; omega))

/-- The fourth result: the scales. -/
theorem csV_at (c : Dev nD) (b : Fin 6) (l : Fin 30) (s : Fin 384) :
    csV m c (ix3 b l s) = (args m c).scale ⟨384 * b.val + s.val, by omega⟩ l := by
  refine (sc_at ((384 * b.val + s.val) / 384) ((384 * b.val + s.val) % 384 / 64) (by omega) (by omega) (of_at m c l) (⟨(384 * b.val + s.val) % 64, by omega⟩ : Fin 64)).trans ?_
  exact congrArg (fun r => (args m c).scale r l) (Fin.ext (by
    show 384 * ((384 * b.val + s.val) / 384) + 64 * ((384 * b.val + s.val) % 384 / 64) + (384 * b.val + s.val) % 64 = 384 * b.val + s.val; omega))

end Cert.KernelIdeal.Hand

end
-- ==== Proof.RefP.lean ====
/- The reference's two reductions and its small operations at an index. -/
module

public import proofs.«01_k».proof.Proof.Gen.ReferenceIdeal.Value
public import proofs.«01_k».proof.Proof.Spec

@[expose] public section

set_option maxRecDepth 16384

noncomputable section

namespace Cert.ReferenceIdeal.Hand

open Idealize.ShloMosaic Idealize.SL.Sem
open Cert.ReferenceIdeal Cert.ReferenceIdeal.Gen Cert.Spec

variable (A : Args)

/-- The place of a channel among the four axes. -/
theorem lift4 (b : Fin 6) (s : Fin 384) (l : Fin 30) (k : Fin 256) :
    reduces_S6x384x30x256_S6x384x30.lift (ix3 b s l) k = (ix4 b s l k : S6x384x30x256.Idx) := by
  funext c; apply Fin.ext
  match c with
  | ⟨0, _⟩ => rfl
  | ⟨1, _⟩ => rfl
  | ⟨2, _⟩ => rfl
  | ⟨3, _⟩ => rfl

theorem max4 (v : FVec Ideal S6x384x30x256 .f32) (b : Fin 6) (s : Fin 384) (l : Fin 30) :
    multiReduction .maximumf [3] S6x384x30 v 0xFF800000#32 reduces_S6x384x30x256_S6x384x30 (.inl rfl) rfl (ix3 b s l)
      = (Finset.univ : Finset (Fin 256)).fold max (lit 0xFF800000#32) fun k => v (ix4 b s l k) := by
  refine (Ideal.multiReduction_maximumf_single v _ _ _ _ (ix3 b s l)).trans ?_
  refine Finset.fold_congr (s := (Finset.univ : Finset (Fin 256))) fun k _ => ?_
  exact congrArg v (lift4 b s l k)

theorem sum4 (v : FVec Ideal S6x384x30x256 .f32) (b : Fin 6) (s : Fin 384) (l : Fin 30) :
    multiReduction .add [3] S6x384x30 v 0x00000000#32 reduces_S6x384x30x256_S6x384x30 (.inl rfl) rfl (ix3 b s l)
      = ∑ k : Fin 256, v (ix4 b s l k) := by
  refine (Ideal.multiReduction_add_single v _ _ _ _ (ix3 b s l)).trans ?_
  refine Finset.sum_congr (s₁ := (Finset.univ : Finset (Fin 256))) rfl fun k _ => ?_
  exact congrArg v (lift4 b s l k)

/-- The scale in the model's own operations. -/
theorem pay1_gen {F : FTy → Type} [FloatOps F] [Named F] (v : FVec F S6x384x30x256 .f32) (i : S6x384x30.Idx) :
    k0_pay1 v i
      = Scalar.select (FloatOps.cmpf .oeq (multiReduction .maximumf [3] S6x384x30 v 0xFF800000#32 reduces_S6x384x30x256_S6x384x30 (.inl rfl) rfl i) (Scalar.ofBits .f32 0x00000000#32))
          (Scalar.ofBits .f32 0x3F800000#32)
          (FloatOps.divf (multiReduction .maximumf [3] S6x384x30 v 0xFF800000#32 reduces_S6x384x30x256_S6x384x30 (.inl rfl) rfl i) (Scalar.ofBits .f32 0x42FE0000#32)) := rfl

/-- The scale over the reals, from the largest magnitude. -/
def scaleOf (x : Ideal .f32) : Ideal .f32 :=
  Scalar.select (FloatOps.cmpf .oeq x (lit 0x00000000#32)) (lit 0x3F800000#32) (Ideal.div x (lit 0x42FE0000#32))

theorem scaleOf_eq (x : Ideal .f32) : Scalar.select (FloatOps.cmpf .oeq x (Scalar.ofBits .f32 0x00000000#32)) (Scalar.ofBits .f32 0x3F800000#32)
    (FloatOps.divf x (Scalar.ofBits .f32 0x42FE0000#32)) = scaleOf x := rfl

/-- The quantiser's scale at a token and layer. -/
theorem pay1_at (v : FVec Ideal S6x384x30x256 .f32) (b : Fin 6) (s : Fin 384) (l : Fin 30) :
    k0_pay1 v (ix3 b s l) = scaleOf ((Finset.univ : Finset (Fin 256)).fold max (lit 0xFF800000#32) fun k => v (ix4 b s l k)) := by
  rw [pay1_gen, max4]
  exact scaleOf_eq _

theorem tr4 {α : Type} (v : S6x384x30x256.Idx → α) (b : Fin 6) (s : Fin 384) (l : Fin 30) (j : Fin 256) :
    transpose S6x30x384x256 [0, 2, 1, 3] v transposes_S6x384x30x256_p0_2_1_3_S6x30x384x256 (ix4 b l s j) = v (ix4 b s l j) := by
  pointwise

theorem tr3 {α : Type} (v : S6x384x30.Idx → α) (b : Fin 6) (s : Fin 384) (l : Fin 30) :
    transpose S6x30x384 [0, 2, 1] v transposes_S6x384x30_p0_2_1_S6x30x384 (ix3 b l s) = v (ix3 b s l) := by
  pointwise

theorem wide4 {α : Type} (v : S6x384x30.Idx → α) (b : Fin 6) (s : Fin 384) (l : Fin 30) (j : Fin 256) :
    broadcastTo S6x384x30x256 (shapeCast S6x384x30x1 v shapeCasts_S6x384x30_S6x384x30x1) broadcasts_S6x384x30x1_S6x384x30x256 (ix4 b s l j) = v (ix3 b s l) := by
  have e : broadcastTo S6x384x30x256 (shapeCast S6x384x30x1 v shapeCasts_S6x384x30_S6x384x30x1) broadcasts_S6x384x30x1_S6x384x30x256 (ix4 b s l j)
      = shapeCast S6x384x30x1 v shapeCasts_S6x384x30_S6x384x30x1 (ix4 b s l 0) := by pointwise
  rw [e]
  pointwise

/-- The codes in the model's own operations. -/
theorem pay2_gen {F : FTy → Type} [FloatOps F] [Named F] (v w : FVec F S6x384x30x256 .f32) :
    k0_pay2 v w = transpose S6x30x384x256 [0, 2, 1, 3]
      (fun i => FloatOps.fptosi 8 (FloatOps.minimumf (Scalar.sitofp .f32 127#32) (FloatOps.maximumf (Scalar.sitofp .f32 4294967169#32)
        (FloatOps.roundeven (FloatOps.divf (v i) (broadcastTo S6x384x30x256 (shapeCast S6x384x30x1 (k0_pay1 w) shapeCasts_S6x384x30_S6x384x30x1) broadcasts_S6x384x30x1_S6x384x30x256 i))))))
      transposes_S6x384x30x256_p0_2_1_3_S6x30x384x256 := rfl

/-- The code at a layer, token and channel. -/
theorem pay2_at (v w : FVec Ideal S6x384x30x256 .f32) (b : Fin 6) (s : Fin 384) (l : Fin 30) (j : Fin 256) :
    k0_pay2 v w (ix4 b l s j) = Args.toCode (Ideal.div (v (ix4 b s l j)) (k0_pay1 w (ix3 b s l))) := by
  rw [pay2_gen, tr4, wide4]
  generalize k0_pay1 w (ix3 b s l) = y
  generalize v (ix4 b s l j) = x
  rfl

theorem p_at (b : Fin 6) (s : Fin 384) (l : Fin 30) (j : Fin 256) :
    k0_pay4 A.a0 A.a2 (View.ld A.a1 r0_2) A.a3 (ix4 b s l j) = A.p ⟨384 * b.val + s.val, by omega⟩ l j := by
  unfold k0_pay4
  pointwise
  have e : (⟨b.val * 384 + s.val, by omega⟩ : Fin 2304) = ⟨384 * b.val + s.val, by omega⟩ := Fin.ext (by show b.val * 384 + s.val = 384 * b.val + s.val; omega)
  rw [e]
  rfl

/-- The root mean square in the model's own operations. -/
theorem pay5_gen {F : FTy → Type} [FloatOps F] [Named F] (v0 : Vec F S2304x2048 .i8) (v2 : Vec F S2048x30x256 .i8) (v7 : Vec F S2304x1 .f32) (v12 : Vec F S30x256 .f32) (i : S6x384x30.Idx) :
    k0_pay5 v0 v2 v7 v12 i
      = FloatOps.sqrt (FloatOps.addf (FloatOps.divf (multiReduction .add [3] S6x384x30 (fun k => FloatOps.mulf (k0_pay4 v0 v2 v7 v12 k) (k0_pay4 v0 v2 v7 v12 k)) 0x00000000#32 reduces_S6x384x30x256_S6x384x30 (.inl rfl) rfl i)
          (Scalar.ofBits .f32 0x43800000#32)) (Scalar.ofBits .f32 0x358637BD#32)) := rfl

theorem rms_at (b : Fin 6) (s : Fin 384) (l : Fin 30) :
    k0_pay5 A.a0 A.a2 (View.ld A.a1 r0_2) A.a3 (ix3 b s l) = A.rms ⟨384 * b.val + s.val, by omega⟩ l := by
  rw [pay5_gen, sum4]
  unfold Args.rms Args.sq
  rw [Finset.sum_congr rfl fun k _ => congrArg (fun x => FloatOps.mulf x x) (p_at A b s l k)]
  generalize A.p ⟨384 * b.val + s.val, by omega⟩ l = f
  rfl

/-- The weighted normalised value in the model's own operations. -/
theorem pay6_gen {F : FTy → Type} [FloatOps F] [Named F] (v0 : Vec F S2304x2048 .i8) (v2 : Vec F S2048x30x256 .i8) (v7 : Vec F S2304x1 .f32) (v12 : Vec F S30x256 .f32) (v28 : Vec F S256 .f32) (i : S6x384x30x256.Idx) :
    k0_pay6 v0 v2 v7 v12 v28 i
      = FloatOps.mulf (FloatOps.divf (k0_pay4 v0 v2 v7 v12 i) (broadcastTo S6x384x30x256 (shapeCast S6x384x30x1 (k0_pay5 v0 v2 v7 v12) shapeCasts_S6x384x30_S6x384x30x1) broadcasts_S6x384x30x1_S6x384x30x256 i))
          (broadcastTo S6x384x30x256 (shapeCast S1x1x1x256 v28 shapeCasts_S256_S1x1x1x256) broadcasts_S1x1x1x256_S6x384x30x256 i) := rfl

theorem pn_at (b : Fin 6) (s : Fin 384) (l : Fin 30) (j : Fin 256) :
    k0_pay6 A.a0 A.a2 (View.ld A.a1 r0_2) A.a3 A.a4 (ix4 b s l j)
      = Ideal.div (A.p ⟨384 * b.val + s.val, by omega⟩ l j) (A.rms ⟨384 * b.val + s.val, by omega⟩ l) * A.a4 (ix1 j) := by
  have e : broadcastTo S6x384x30x256 (shapeCast S1x1x1x256 A.a4 shapeCasts_S256_S1x1x1x256) broadcasts_S1x1x1x256_S6x384x30x256 (ix4 b s l j) = A.a4 (ix1 j) := by
    pointwise
  rw [pay6_gen, wide4, p_at, rms_at, e]
  rfl

end Cert.ReferenceIdeal.Hand

end
-- ==== Proof.RefC.lean ====
/- The reference's table rows and its combination at an index. -/
module

public import proofs.«01_k».proof.Proof.RefP
public import proofs.«01_k».proof.Proof.Shift

@[expose] public section

set_option maxRecDepth 16384

noncomputable section

namespace Cert.ReferenceIdeal.Hand

open Idealize.ShloMosaic Idealize.SL.Sem
open Cert.ReferenceIdeal Cert.ReferenceIdeal.Gen Cert.Spec

variable (A : Args)

/-- The quarter of a channel. -/
theorem q_at (b : Fin 6) (s : Fin 384) (l : Fin 30) (j : Fin 256) : k0_pay9 (ix4 b s l j) = BitVec.ofNat 32 (j.val / 64) := by
  unfold k0_pay9
  pointwise
  clear b s l
  revert j
  decide +kernel

/-- A channel's two bits. -/
theorem field_at (v : Vec Ideal S2304x480 .i32) (b : Fin 6) (s : Fin 384) (l : Fin 30) (j : Fin 256) :
    k0_pay10 (F := Ideal) v (ix4 b s l j)
      = FloatOps.sitofp .f32 ((((v (ix2 (⟨384 * b.val + s.val, by omega⟩ : Fin 2304) (⟨16 * l.val + j.val % 64 / 4, by omega⟩ : Fin 480)) : BitVec 32).sshiftRight (8 * (j.val % 4)) &&& 255#32).sshiftRight (2 * (j.val / 64))) &&& 3#32) := by
  unfold k0_pay10
  pointwise
  rw [q_at]
  have e : (⟨b.val * 384 + s.val, by omega⟩ : Fin 2304) = ⟨384 * b.val + s.val, by omega⟩ := Fin.ext (by show b.val * 384 + s.val = 384 * b.val + s.val; omega)
  have hb : ∀ (n : ℕ) (hn : l.val * 16 + n / 4 < 480), n = j.val % 64 →
      IntOp.andi (IntOp.shrsi .vector (v (ix2 (⟨b.val * 384 + s.val, by omega⟩ : Fin 2304) (⟨l.val * 16 + n / 4, hn⟩ : Fin 480)) : BitVec 32)
        (IntOp.muli 8#32 (BitVec.ofNat 32 (n % 4)))) 255#32
      = (v (ix2 (⟨384 * b.val + s.val, by omega⟩ : Fin 2304) (⟨16 * l.val + j.val % 64 / 4, by omega⟩ : Fin 480)) : BitVec 32).sshiftRight (8 * (j.val % 4)) &&& 255#32 := by
    intro n hn h
    subst h
    have e' : (⟨l.val * 16 + j.val % 64 / 4, hn⟩ : Fin 480) = ⟨16 * l.val + j.val % 64 / 4, by omega⟩ := Fin.ext (by show l.val * 16 + _ = 16 * l.val + _; omega)
    rw [mul_eq, shr_eq _ _ (by omega), e, e', show j.val % 64 % 4 = j.val % 4 by omega]
    rfl
  have hj := j.isLt
  rw [mul_eq 2 (j.val / 64)]
  refine congrArg (FloatOps.sitofp (F := Ideal) .f32) ((congrArg (fun z : BitVec 32 => IntOp.andi (IntOp.shrsi .vector z (BitVec.ofNat 32 (2 * (j.val / 64)))) 3#32) ?_).trans
    (congrArg (fun z : BitVec 32 => z &&& 3#32) (shr_eq _ _ (by omega))))
  split_ifs <;> exact hb _ _ (by omega)

/-- An entry of a table at one of the four quarters. -/
theorem tab_at (v : Vec Ideal S2304x120 .f32) (b : Fin 6) (s : Fin 384) (l : Fin 30) (c : Fin 4) :
    k0_pay11 (F := Ideal) v (ix4 b s l c) = v (ix2 (⟨384 * b.val + s.val, by omega⟩ : Fin 2304) (⟨4 * l.val + c.val, by omega⟩ : Fin 120)) := by
  unfold k0_pay11
  pointwise
  have e : (⟨b.val * 384 + s.val, by omega⟩ : Fin 2304) = ⟨384 * b.val + s.val, by omega⟩ := Fin.ext (by show b.val * 384 + s.val = 384 * b.val + s.val; omega)
  have e' : (⟨l.val * 4 + c.val, by omega⟩ : Fin 120) = ⟨4 * l.val + c.val, by omega⟩ := Fin.ext (by show l.val * 4 + c.val = 4 * l.val + c.val; omega)
  rw [e, e']

/-- The choice among the four quarters. -/
theorem choose_at {α : Type} (f : Fin 4 → α) (j : Fin 256) :
    Scalar.select (Scalar.cmpi .slt (BitVec.ofNat 32 (j.val / 64)) 2#32)
      (Scalar.select (Scalar.cmpi .eq (BitVec.ofNat 32 (j.val / 64)) 0#32) (f 0) (f 1))
      (Scalar.select (Scalar.cmpi .eq (BitVec.ofNat 32 (j.val / 64)) 2#32) (f 2) (f 3)) = f ⟨j.val / 64, by omega⟩ := by
  have hj : j.val / 64 < 4 := by omega
  have h : ∀ q : Fin 4, Scalar.select (Scalar.cmpi .slt (BitVec.ofNat 32 q.val) 2#32)
      (Scalar.select (Scalar.cmpi .eq (BitVec.ofNat 32 q.val) 0#32) (f 0) (f 1))
      (Scalar.select (Scalar.cmpi .eq (BitVec.ofNat 32 q.val) 2#32) (f 2) (f 3)) = f q := by
    intro q
    fin_cases q <;> rfl
  exact h ⟨j.val / 64, hj⟩

/-- The combination in scalars. -/
theorem comb12 (v31 : FVec Ideal S6x384x30x256 .f32) (v78 : FVec Ideal S6x384x30x256 .f32) (v80 : Vec Ideal S2304x120 .f32) (v81 : Vec Ideal S2304x120 .f32)
    (b : Fin 6) (s : Fin 384) (l : Fin 30) (j : Fin 256) :
    k0_pay12 v31 k0_pay9 v78 (k0_pay11 v80) v81 (ix4 b s l j)
      = v31 (ix4 b s l j) * lit 0x3F3504F3#32 + (v78 (ix4 b s l j) * k0_pay11 v80 (ix4 b s l ⟨j.val / 64, by omega⟩) + k0_pay11 v81 (ix4 b s l ⟨j.val / 64, by omega⟩)) := by
  rw [← choose_at (fun c => k0_pay11 v80 (ix4 b s l c)) j, ← choose_at (fun c => k0_pay11 v81 (ix4 b s l c)) j]
  unfold k0_pay12
  pointwise
  rw [q_at]
  unfold k0_pay11
  pointwise
  rfl

/-- The combination is the specification's. -/
theorem comb_at (b : Fin 6) (s : Fin 384) (l : Fin 30) (j : Fin 256) :
    k0_pay12 (k0_pay6 A.a0 A.a2 (View.ld A.a1 r0_2) A.a3 A.a4) k0_pay9 (k0_pay10 (View.ld A.a5 r0_7)) (k0_pay11 (View.ld A.a6 r0_8)) (View.ld A.a7 r0_8) (ix4 b s l j)
      = A.comb ⟨384 * b.val + s.val, by omega⟩ l j := by
  rw [comb12, pn_at, field_at, tab_at, tab_at]
  unfold Args.comb Args.field Args.word Args.quarter
  have e5 : (r0_7.emb (ix2 (⟨384 * b.val + s.val, by omega⟩ : Fin 2304) (⟨16 * l.val + j.val % 64 / 4, by omega⟩ : Fin 480)) : S2304x512.Idx)
      = ix2 (⟨384 * b.val + s.val, by omega⟩ : Fin 2304) (⟨16 * l.val + j.val % 64 / 4, by omega⟩ : Fin 512) := by
    funext a; apply Fin.ext
    match a with
    | ⟨0, _⟩ => show 0 + 1 * (384 * b.val + s.val) = 384 * b.val + s.val; omega
    | ⟨1, _⟩ => show 0 + 1 * (16 * l.val + j.val % 64 / 4) = 16 * l.val + j.val % 64 / 4; omega
  have e6 : (r0_8.emb (ix2 (⟨384 * b.val + s.val, by omega⟩ : Fin 2304) (⟨4 * l.val + j.val / 64, by omega⟩ : Fin 120)) : S2304x128.Idx)
      = ix2 (⟨384 * b.val + s.val, by omega⟩ : Fin 2304) (⟨4 * l.val + j.val / 64, by omega⟩ : Fin 128) := by
    funext a; apply Fin.ext
    match a with
    | ⟨0, _⟩ => show 0 + 1 * (384 * b.val + s.val) = 384 * b.val + s.val; omega
    | ⟨1, _⟩ => show 0 + 1 * (4 * l.val + j.val / 64) = 4 * l.val + j.val / 64; omega
  have h5 : View.ld A.a5 r0_7 (ix2 (⟨384 * b.val + s.val, by omega⟩ : Fin 2304) (⟨16 * l.val + j.val % 64 / 4, by omega⟩ : Fin 480)) = _ := congrArg A.a5 e5
  have h6 : View.ld A.a6 r0_8 (ix2 (⟨384 * b.val + s.val, by omega⟩ : Fin 2304) (⟨4 * l.val + j.val / 64, by omega⟩ : Fin 120)) = _ := congrArg A.a6 e6
  have h7 : View.ld A.a7 r0_8 (ix2 (⟨384 * b.val + s.val, by omega⟩ : Fin 2304) (⟨4 * l.val + j.val / 64, by omega⟩ : Fin 120)) = _ := congrArg A.a7 e6
  rw [h5, h6, h7]

/-- Its magnitude. -/
theorem pay13_gen {F : FTy → Type} [FloatOps F] [Named F] (v31 : FVec F S6x384x30x256 .f32) (v72 : IVec S6x384x30x256 32) (v78 : FVec F S6x384x30x256 .f32) (v80 : FVec F S6x384x30x4 .f32) (v81 : Vec F S2304x120 .f32) :
    k0_pay13 v31 v72 v78 v80 v81 = fun i => FloatOps.absf (k0_pay12 v31 v72 v78 v80 v81 i) := rfl

end Cert.ReferenceIdeal.Hand

end
-- ==== Proof.RefResults.lean ====
/- The reference's four results at an index are the specification's projection, root mean square, code and scale. -/
module

public import proofs.«01_k».proof.Proof.RefC

@[expose] public section

set_option maxRecDepth 16384

noncomputable section

namespace Cert.ReferenceIdeal.Hand

open Idealize.ShloMosaic Idealize.SL.Sem
open Cert.ReferenceIdeal Cert.ReferenceIdeal.Gen Cert.Spec

variable (A : Args)

/-- The first result: the projection. -/
theorem G8_at (b : Fin 6) (l : Fin 30) (s : Fin 384) (j : Fin 256) :
    Value.G8 A.a0 A.a1 A.a2 A.a3 A.a4 A.a5 A.a6 A.a7 (ix4 b l s j) = A.p ⟨384 * b.val + s.val, by omega⟩ l j :=
  (tr4 (k0_pay4 A.a0 A.a2 (View.ld A.a1 r0_2) A.a3) b s l j).trans (p_at A b s l j)

/-- The second result: the root mean squares. -/
theorem G9_at (b : Fin 6) (l : Fin 30) (s : Fin 384) :
    Value.G9 A.a0 A.a1 A.a2 A.a3 A.a4 A.a5 A.a6 A.a7 (ix3 b l s) = A.rms ⟨384 * b.val + s.val, by omega⟩ l :=
  (tr3 (k0_pay5 A.a0 A.a2 (View.ld A.a1 r0_2) A.a3) b s l).trans (rms_at A b s l)

/-- The weighted normalised value reads the whole arrays. -/
theorem pay14_eq : k0_pay14 A.a0 A.a1 A.a2 A.a3 A.a4 A.a5 A.a6 A.a7 = k0_pay6 A.a0 A.a2 (View.ld A.a1 r0_2) A.a3 A.a4 := by
  have h4 : View.ld A.a4 r0_4 = A.a4 := View.ld_unit_zero (S := S256) (by funext a; fin_cases a; rfl) _ A.a4
  unfold k0_pay14
  rw [h4, View.ld_unit_zero (S := S2304x2048) Value.hz0 _ A.a0, View.ld_unit_zero (S := S2048x30x256) Value.hz2 _ A.a2, View.ld_unit_zero (S := S30x256) Value.hz3 _ A.a3]

/-- The combination at an index. -/
theorem c_at (b : Fin 6) (s : Fin 384) (l : Fin 30) (j : Fin 256) :
    k0_pay12 (k0_pay14 A.a0 A.a1 A.a2 A.a3 A.a4 A.a5 A.a6 A.a7) (k0_pay15 A.a0 A.a1 A.a2 A.a3 A.a4 A.a5 A.a6 A.a7)
      (k0_pay16 A.a0 A.a1 A.a2 A.a3 A.a4 A.a5 A.a6 A.a7) (k0_pay17 A.a0 A.a1 A.a2 A.a3 A.a4 A.a5 A.a6 A.a7) (View.ld A.a7 r0_8) (ix4 b s l j)
      = A.comb ⟨384 * b.val + s.val, by omega⟩ l j := by
  rw [pay14_eq]
  exact comb_at A b s l j

/-- The quantiser's scale at an index. -/
theorem sc_at (b : Fin 6) (s : Fin 384) (l : Fin 30) :
    k0_pay1 (k0_pay18 A.a0 A.a1 A.a2 A.a3 A.a4 A.a5 A.a6 A.a7) (ix3 b s l) = A.scale ⟨384 * b.val + s.val, by omega⟩ l := by
  rw [pay1_at]
  refine congrArg scaleOf ?_
  unfold Args.amax
  refine Finset.fold_congr (s := (Finset.univ : Finset (Fin 256))) fun j _ => ?_
  unfold k0_pay18
  rw [pay13_gen]
  show FloatOps.absf (k0_pay12 _ _ _ _ _ (ix4 b s l j)) = _
  rw [c_at]
  rfl

/-- The third result: the codes. -/
theorem G10_at (b : Fin 6) (l : Fin 30) (s : Fin 384) (j : Fin 256) :
    Value.G10 A.a0 A.a1 A.a2 A.a3 A.a4 A.a5 A.a6 A.a7 (ix4 b l s j) = A.code ⟨384 * b.val + s.val, by omega⟩ l j := by
  refine (pay2_at _ _ b s l j).trans ?_
  rw [c_at, sc_at]
  rfl

/-- The last result in the model's own operations. -/
theorem pay3_gen {F : FTy → Type} [FloatOps F] [Named F] (w : FVec F S6x384x30x256 .f32) :
    k0_pay3 w = transpose S6x30x384 [0, 2, 1] (k0_pay1 w) transposes_S6x384x30_p0_2_1_S6x30x384 := rfl

/-- The fourth result: the scales. -/
theorem G11_at (b : Fin 6) (l : Fin 30) (s : Fin 384) :
    Value.G11 A.a0 A.a1 A.a2 A.a3 A.a4 A.a5 A.a6 A.a7 (ix3 b l s) = A.scale ⟨384 * b.val + s.val, by omega⟩ l := by
  unfold Value.G11
  rw [pay3_gen, tr3, sc_at]

end Cert.ReferenceIdeal.Hand

end
-- ==== Proof.Same.lean ====
/- The reference's four results are the idealized kernel's four arrays, where the arguments are the same. -/
module

public import proofs.«01_k».proof.Proof.IdealResults
public import proofs.«01_k».proof.Proof.RefResults

@[expose] public section

noncomputable section

namespace Cert.Proof

open Idealize.ShloMosaic Idealize.SL.Sem

/-- A rank-3 index is its coordinates. -/
theorem eta3 (x : Cert.KernelIdeal.S6x30x384.Idx) : x = ix3 (x 0) (x 1) (x 2) := by
  funext a
  match a with
  | ⟨0, _⟩ => rfl
  | ⟨1, _⟩ => rfl
  | ⟨2, _⟩ => rfl

/-- A rank-4 index is its coordinates. -/
theorem eta4 (x : Cert.KernelIdeal.S6x30x384x256.Idx) : x = ix4 (x 0) (x 1) (x 2) (x 3) := by
  funext a
  match a with
  | ⟨0, _⟩ => rfl
  | ⟨1, _⟩ => rfl
  | ⟨2, _⟩ => rfl
  | ⟨3, _⟩ => rfl

section

variable (m : (ℓ : Loc Cert.KernelIdeal.nD Cert.KernelIdeal.τ Cert.KernelIdeal.sig) → Buf (Elt Ideal) ℓ) (c : Dev Cert.KernelIdeal.nD)

variable (x0 : Vec Ideal Cert.KernelIdeal.S2304x2048 .i8) (x1 : Vec Ideal Cert.KernelIdeal.S2304x128 .f32) (x2 : Vec Ideal Cert.KernelIdeal.S2048x30x256 .i8)
  (x3 : Vec Ideal Cert.KernelIdeal.S30x256 .f32) (x4 : Vec Ideal Cert.KernelIdeal.S256 .f32) (x5 : Vec Ideal Cert.KernelIdeal.S2304x512 .i32)
  (x6 : Vec Ideal Cert.KernelIdeal.S2304x128 .f32) (x7 : Vec Ideal Cert.KernelIdeal.S2304x128 .f32)

/-- The two programs' projections agree. -/
theorem same0 (hA : (⟨x0, x1, x2, x3, x4, x5, x6, x7⟩ : Cert.Spec.Args) = Cert.KernelIdeal.Hand.args m c) :
    Cert.ReferenceIdeal.Value.G8 x0 x1 x2 x3 x4 x5 x6 x7 = Cert.KernelIdeal.Hand.pV m c := by
  funext x
  rw [eta4 x]
  refine (Cert.ReferenceIdeal.Hand.G8_at ⟨x0, x1, x2, x3, x4, x5, x6, x7⟩ _ _ _ _).trans ?_
  rw [hA]
  exact (Cert.KernelIdeal.Hand.pV_at m c _ _ _ _).symm

/-- Their root mean squares agree. -/
theorem same1 (hA : (⟨x0, x1, x2, x3, x4, x5, x6, x7⟩ : Cert.Spec.Args) = Cert.KernelIdeal.Hand.args m c) :
    Cert.ReferenceIdeal.Value.G9 x0 x1 x2 x3 x4 x5 x6 x7 = Cert.KernelIdeal.Hand.segV m c := by
  funext x
  rw [eta3 x]
  refine (Cert.ReferenceIdeal.Hand.G9_at ⟨x0, x1, x2, x3, x4, x5, x6, x7⟩ _ _ _).trans ?_
  rw [hA]
  exact (Cert.KernelIdeal.Hand.segV_at m c _ _ _).symm

/-- Their codes agree. -/
theorem same2 (hA : (⟨x0, x1, x2, x3, x4, x5, x6, x7⟩ : Cert.Spec.Args) = Cert.KernelIdeal.Hand.args m c) :
    Cert.ReferenceIdeal.Value.G10 x0 x1 x2 x3 x4 x5 x6 x7 = Cert.KernelIdeal.Hand.cV m c := by
  funext x
  rw [eta4 x]
  refine (Cert.ReferenceIdeal.Hand.G10_at ⟨x0, x1, x2, x3, x4, x5, x6, x7⟩ _ _ _ _).trans ?_
  rw [hA]
  exact (Cert.KernelIdeal.Hand.cV_at m c _ _ _ _).symm

/-- Their scales agree. -/
theorem same3 (hA : (⟨x0, x1, x2, x3, x4, x5, x6, x7⟩ : Cert.Spec.Args) = Cert.KernelIdeal.Hand.args m c) :
    Cert.ReferenceIdeal.Value.G11 x0 x1 x2 x3 x4 x5 x6 x7 = Cert.KernelIdeal.Hand.csV m c := by
  funext x
  rw [eta3 x]
  refine (Cert.ReferenceIdeal.Hand.G11_at ⟨x0, x1, x2, x3, x4, x5, x6, x7⟩ _ _ _).trans ?_
  rw [hA]
  exact (Cert.KernelIdeal.Hand.csV_at m c _ _ _).symm

end

end Cert.Proof

end
-- ==== Proof.lean ====
/- The proof of the certificate's claim: the three programs run and leave their arguments unchanged, the one rewrite of the
   kernel is justified, and the idealized kernel and the reference have equal results over the reals. -/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.BitsFrame
public import proofs.«01_k».proof.Proof.Same
public import Idealize.ShloMosaic.Adequacy
public import Idealize.ShloMosaic.Init

@[expose] public section

noncomputable section

namespace Cert.Proof

open Idealize.ShloMosaic Idealize.SL.Sem Cert.Kernel

/-- The idealized kernel and the reference compute equal results from equal arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.pV m c, fun c => Cert.KernelIdeal.Hand.segV m c, fun c => Cert.KernelIdeal.Hand.cV m c, fun c => Cert.KernelIdeal.Hand.csV m c,
    Cert.KernelIdeal.Hand.run m g, ?_⟩
  refine (θ_run (Cert.ReferenceIdeal.defs (F := Ideal)) _ _).mono (fun r h c => ?_) (Cert.ReferenceIdeal.Value.run m' g')
  obtain ⟨h0, h1, h2, h3, ha⟩ := h c
  obtain ⟨e0, e1, e2, e3, e4, e5, e6, e7⟩ := hm c
  have hA : (⟨m' ((c.tc : Thread Cert.ReferenceIdeal.nD Cert.ReferenceIdeal.τ).loc Cert.ReferenceIdeal.main_arg0),
      m' ((c.tc : Thread Cert.ReferenceIdeal.nD Cert.ReferenceIdeal.τ).loc Cert.ReferenceIdeal.main_arg1),
      m' ((c.tc : Thread Cert.ReferenceIdeal.nD Cert.ReferenceIdeal.τ).loc Cert.ReferenceIdeal.main_arg2),
      m' ((c.tc : Thread Cert.ReferenceIdeal.nD Cert.ReferenceIdeal.τ).loc Cert.ReferenceIdeal.main_arg3),
      m' ((c.tc : Thread Cert.ReferenceIdeal.nD Cert.ReferenceIdeal.τ).loc Cert.ReferenceIdeal.main_arg4),
      m' ((c.tc : Thread Cert.ReferenceIdeal.nD Cert.ReferenceIdeal.τ).loc Cert.ReferenceIdeal.main_arg5),
      m' ((c.tc : Thread Cert.ReferenceIdeal.nD Cert.ReferenceIdeal.τ).loc Cert.ReferenceIdeal.main_arg6),
      m' ((c.tc : Thread Cert.ReferenceIdeal.nD Cert.ReferenceIdeal.τ).loc Cert.ReferenceIdeal.main_arg7)⟩ : Cert.Spec.Args) = Cert.KernelIdeal.Hand.args m c := by
    rw [e0, e1, e2, e3, e4, e5, e6, e7]
    rfl
  exact ⟨h0.trans (same0 m c _ _ _ _ _ _ _ _ hA), h1.trans (same1 m c _ _ _ _ _ _ _ _ hA), h2.trans (same2 m c _ _ _ _ _ _ _ _ hA),
    h3.trans (same3 m c _ _ _ _ _ _ _ _ hA), ha⟩

/-- The certificate's claim. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  IdealRules.named_const.statement Cert.KernelIdeal.κ "inv127" .f32 0x3C010204#32 ((1 / 127 : ℝ) : EReal) rfl, algebraic⟩

end Cert.Proof

end
